-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_finite [hPre_plain_finite : Cert.Pre_plain_finite.Facts] (m : (ℓ : Loc Cert.KernelIdeal.nD Cert.KernelIdeal.τ Cert.KernelIdeal.sig) → Buf (Elt Ideal) ℓ) : Prop :=
  ∀ c : Dev Cert.KernelIdeal.nD,
    (Cert.Pre_plain_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_finite [hPre_plain_finite : Cert.Pre_plain_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_plain_finite [hKernelIdeal : Cert.KernelIdeal.Facts] [hPre_plain_finite : Cert.Pre_plain_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_plain_finite [hReferenceIdeal : Cert.ReferenceIdeal.Facts] [hPre_plain_finite : Cert.Pre_plain_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_plain_finite [hKernelIdeal : Cert.KernelIdeal.Facts] [hReferenceIdeal : Cert.ReferenceIdeal.Facts] [hPre_plain_finite : Cert.Pre_plain_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_plain_finite : Cert.Pre_plain_finite.Facts),
    quiescent_Kernel (hKernel := hKernel)
    ∧ quiescent_KernelIdeal (hKernelIdeal := hKernelIdeal)
    ∧ quiescent_KernelIdeal_pre_plain_finite (hKernelIdeal := hKernelIdeal) (hPre_plain_finite := hPre_plain_finite)
    ∧ quiescent_ReferenceIdeal (hReferenceIdeal := hReferenceIdeal)
    ∧ quiescent_ReferenceIdeal_pre_plain_finite (hReferenceIdeal := hReferenceIdeal) (hPre_plain_finite := hPre_plain_finite)
    ∧ preserves_Kernel_KernelIdeal
    ∧ algebraic_KernelIdeal_ReferenceIdeal_pre_plain_finite (hKernelIdeal := hKernelIdeal) (hReferenceIdeal := hReferenceIdeal) (hPre_plain_finite := hPre_plain_finite)
-- ==== Pre_plain_finite.lean ====
abbrev S2048x33x2048 : Shape := ⟨3, ![2048, 33, 2048]⟩
abbrev S33x24 : Shape := ⟨2, ![33, 24]⟩
abbrev S24x2048 : Shape := ⟨2, ![24, 2048]⟩
abbrev S33x2048x1024 : Shape := ⟨3, ![33, 2048, 1024]⟩
abbrev S33x1024 : Shape := ⟨2, ![33, 1024]⟩
abbrev S33x1024x2048 : Shape := ⟨3, ![33, 1024, 2048]⟩
abbrev S33x2048 : Shape := ⟨2, ![33, 2048]⟩
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S2048x33x2048 : S_.BroadcastsInDim S2048x33x2048 (![] : Fin 0 → Fin S2048x33x2048.rank)
  reducesTo_S2048x33x2048_S_d0_1_2 : S2048x33x2048.ReducesTo [0, 1, 2] S_
  h_S_ : 0 < S_.numel
  bcast_S_S33x2048x1024 : S_.BroadcastsInDim S33x2048x1024 (![] : Fin 0 → Fin S33x2048x1024.rank)
  reducesTo_S33x2048x1024_S_d0_1_2 : S33x2048x1024.ReducesTo [0, 1, 2] S_
  bcast_S_S33x1024x2048 : S_.BroadcastsInDim S33x1024x2048 (![] : Fin 0 → Fin S33x1024x2048.rank)
  reducesTo_S33x1024x2048_S_d0_1_2 : S33x1024x2048.ReducesTo [0, 1, 2] S_
  bcast_S_S33x24 : S_.BroadcastsInDim S33x24 (![] : Fin 0 → Fin S33x24.rank)
  reducesTo_S33x24_S_d0_1 : S33x24.ReducesTo [0, 1] S_
  bcast_S_S24x2048 : S_.BroadcastsInDim S24x2048 (![] : Fin 0 → Fin S24x2048.rank)
  reducesTo_S24x2048_S_d0_1 : S24x2048.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S33x1024 : S_.BroadcastsInDim S33x1024 (![] : Fin 0 → Fin S33x1024.rank)
  reducesTo_S33x1024_S_d0_1 : S33x1024.ReducesTo [0, 1] S_
  bcast_S_S33x2048 : S_.BroadcastsInDim S33x2048 (![] : Fin 0 → Fin S33x2048.rank)
  reducesTo_S33x2048_S_d0_1 : S33x2048.ReducesTo [0, 1] S_

variable [Facts]

def fn_part4 {F : FTy → Type} [FloatOps F] (main_v63 : IVec S_ 1) (main_v65 : IVec S33x2048 1) (main_c_27 : IVec S_ 1) : IVec S_ 1 :=
  let main_v66 : IVec S_ 1 := (fun x v => Host.reduce IntOp.andi x v reducesTo_S33x2048_S_d0_1 h_S_) main_v65 main_c_27
  let main_v67 : IVec S_ 1 := andi main_v63 main_v66
  main_v67

def fn_part3 {F : FTy → Type} [FloatOps F] (main_arg6 : FVec F S33x1024 .f32) (main_arg8 : FVec F S33x2048 .f32) (main_arg9 : FVec F S33x2048 .f32) (main_arg10 : FVec F S33x2048 .f32) (main_v47 : IVec S_ 1) (main_v49 : IVec S33x1024 1) (main_c_19 : IVec S_ 1) : IVec S_ 1 :=
  let main_v50 : IVec S_ 1 := (fun x v => Host.reduce IntOp.andi x v reducesTo_S33x1024_S_d0_1 h_S_) main_v49 main_c_19
  let main_v51 : IVec S_ 1 := andi main_v47 main_v50
  let main_cst_20 : FVec F S_ .f32 := constant S_ .f32 0x00000000#32
  let main_v52 : FVec F S33x1024 .f32 := broadcastInDim S33x1024 ![] bcast_S_S33x1024 main_cst_20
  let main_v53 : IVec S33x1024 1 := cmpf .oeq main_arg6 main_v52
  let main_c_21 : IVec S_ 1 := constantI S_ 1 1#1
  let main_v54 : IVec S_ 1 := (fun x v => Host.reduce IntOp.andi x v reducesTo_S33x1024_S_d0_1 h_S_) main_v53 main_c_21
  let main_v55 : IVec S_ 1 := andi main_v51 main_v54
  let main_cst_22 : FVec F S_ .f32 := constant S_ .f32 0x00000000#32
  let main_v56 : FVec F S33x2048 .f32 := broadcastInDim S33x2048 ![] bcast_S_S33x2048 main_cst_22
  let main_v57 : IVec S33x2048 1 := cmpf .oeq main_arg8 main_v56
  let main_c_23 : IVec S_ 1 := constantI S_ 1 1#1
  let main_v58 : IVec S_ 1 := (fun x v => Host.reduce IntOp.andi x v reducesTo_S33x2048_S_d0_1 h_S_) main_v57 main_c_23
  let main_v59 : IVec S_ 1 := andi main_v55 main_v58
  let main_cst_24 : FVec F S_ .f32 := constant S_ .f32 0x3F800000#32
  let main_v60 : FVec F S33x2048 .f32 := broadcastInDim S33x2048 ![] bcast_S_S33x2048 main_cst_24
  let main_v61 : IVec S33x2048 1 := cmpf .oeq main_arg9 main_v60
  let main_c_25 : IVec S_ 1 := constantI S_ 1 1#1
  let main_v62 : IVec S_ 1 := (fun x v => Host.reduce IntOp.andi x v reducesTo_S33x2048_S_d0_1 h_S_) main_v61 main_c_25
  let main_v63 : IVec S_ 1 := andi main_v59 main_v62
  let main_cst_26 : FVec F S_ .f32 := constant S_ .f32 0x00000000#32
  let main_v64 : FVec F S33x2048 .f32 := broadcastInDim S33x2048 ![] bcast_S_S33x2048 main_cst_26
  let main_v65 : IVec S33x2048 1 := cmpf .oeq main_arg10 main_v64
  let main_c_27 : IVec S_ 1 := constantI S_ 1 1#1
  fn_part4 (F := F) main_v63 main_v65 main_c_27

def fn_part2 {F : FTy → Type} [FloatOps F] (main_arg4 : FVec F S33x1024 .f32) (main_arg5 : FVec F S33x1024 .f32) (main_arg6 : FVec F S33x1024 .f32) (main_arg8 : FVec F S33x2048 .f32) (main_arg9 : FVec F S33x2048 .f32) (main_arg10 : FVec F S33x2048 .f32) (main_arg15 : FVec F S1024x2048 .f32) (main_arg16 : FVec F S2048 .f32) (main_v33 : IVec S_ 1) : IVec S_ 1 :=
  let main_v34 : FVec F S1024x2048 .f32 := Host.absf main_arg15
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S2048 .f32 := Host.absf main_arg16
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_cst_16 : FVec F S_ .f32 := constant S_ .f32 0x00000000#32
  let main_v44 : FVec F S33x1024 .f32 := broadcastInDim S33x1024 ![] bcast_S_S33x1024 main_cst_16
  let main_v45 : IVec S33x1024 1 := cmpf .oeq main_arg4 main_v44
  let main_c_17 : IVec S_ 1 := constantI S_ 1 1#1
  let main_v46 : IVec S_ 1 := (fun x v => Host.reduce IntOp.andi x v reducesTo_S33x1024_S_d0_1 h_S_) main_v45 main_c_17
  let main_v47 : IVec S_ 1 := andi main_v43 main_v46
  let main_cst_18 : FVec F S_ .f32 := constant S_ .f32 0x3F800000#32
  let main_v48 : FVec F S33x1024 .f32 := broadcastInDim S33x1024 ![] bcast_S_S33x1024 main_cst_18
  let main_v49 : IVec S33x1024 1 := cmpf .oeq main_arg5 main_v48
  let main_c_19 : IVec S_ 1 := constantI S_ 1 1#1
  fn_part3 (F := F) main_arg6 main_arg8 main_arg9 main_arg10 main_v47 main_v49 main_c_19

def fn_part1 {F : FTy → Type} [FloatOps F] (main_arg2 : FVec F S24x2048 .f32) (main_arg4 : FVec F S33x1024 .f32) (main_arg5 : FVec F S33x1024 .f32) (main_arg6 : FVec F S33x1024 .f32) (main_arg8 : FVec F S33x2048 .f32) (main_arg9 : FVec F S33x2048 .f32) (main_arg10 : FVec F S33x2048 .f32) (main_arg13 : FVec F S1024 .f32) (main_arg14 : FVec F S1024 .f32) (main_arg15 : FVec F S1024x2048 .f32) (main_arg16 : FVec F S2048 .f32) (main_v13 : IVec S_ 1) (main_v16 : IVec S33x24 1) : IVec S_ 1 :=
  let main_c_5 : IVec S_ 1 := constantI S_ 1 1#1
  let main_v17 : IVec S_ 1 := (fun x v => Host.reduce IntOp.andi x v reducesTo_S33x24_S_d0_1 h_S_) main_v16 main_c_5
  let main_v18 : IVec S_ 1 := andi main_v13 main_v17
  let main_v19 : FVec F S24x2048 .f32 := Host.absf main_arg2
  let main_cst_6 : FVec F S_ .f32 := constant S_ .f32 0x7F800000#32
  let main_v20 : FVec F S24x2048 .f32 := broadcastInDim S24x2048 ![] bcast_S_S24x2048 main_cst_6
  let main_v21 : IVec S24x2048 1 := cmpf .olt main_v19 main_v20
  let main_c_7 : IVec S_ 1 := constantI S_ 1 1#1
  let main_v22 : IVec S_ 1 := (fun x v => Host.reduce IntOp.andi x v reducesTo_S24x2048_S_d0_1 h_S_) main_v21 main_c_7
  let main_v23 : IVec S_ 1 := andi main_v18 main_v22
  let main_v24 : FVec F S1024 .f32 := Host.absf main_arg13
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg14
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg4 main_arg5 main_arg6 main_arg8 main_arg9 main_arg10 main_arg15 main_arg16 main_v33

def fn {F : FTy → Type} [FloatOps F] (main_arg0 : FVec F S2048x33x2048 .f32) (main_arg1 : FVec F S33x24 .f32) (main_arg2 : FVec F S24x2048 .f32) (main_arg3 : FVec F S33x2048x1024 .f32) (main_arg4 : FVec F S33x1024 .f32) (main_arg5 : FVec F S33x1024 .f32) (main_arg6 : FVec F S33x1024 .f32) (main_arg7 : FVec F S33x1024x2048 .f32) (main_arg8 : FVec F S33x2048 .f32) (main_arg9 : FVec F S33x2048 .f32) (main_arg10 : FVec F S33x2048 .f32) (main_arg11 : FVec F S2048x1024 .f32) (main_arg12 : FVec F S1024 .f32) (main_arg13 : FVec F S1024 .f32) (main_arg14 : FVec F S1024 .f32) (main_arg15 : FVec F S1024x2048 .f32) (main_arg16 : FVec F S2048 .f32) : IVec S_ 1 :=
  let main_v0 : FVec F S2048x33x2048 .f32 := Host.absf main_arg0
  let main_cst : FVec F S_ .f32 := constant S_ .f32 0x7F800000#32
  let main_v1 : FVec F S2048x33x2048 .f32 := broadcastInDim S2048x33x2048 ![] bcast_S_S2048x33x2048 main_cst
  let main_v2 : IVec S2048x33x2048 1 := cmpf .olt main_v0 main_v1
  let main_c : IVec S_ 1 := constantI S_ 1 1#1
  let main_v3 : IVec S_ 1 := (fun x v => Host.reduce IntOp.andi x v reducesTo_S2048x33x2048_S_d0_1_2 h_S_) main_v2 main_c
  let main_v4 : FVec F S33x2048x1024 .f32 := Host.absf main_arg3
  let main_cst_0 : FVec F S_ .f32 := constant S_ .f32 0x7F800000#32
  let main_v5 : FVec F S33x2048x1024 .f32 := broadcastInDim S33x2048x1024 ![] bcast_S_S33x2048x1024 main_cst_0
  let main_v6 : IVec S33x2048x1024 1 := cmpf .olt main_v4 main_v5
  let main_c_1 : IVec S_ 1 := constantI S_ 1 1#1
  let main_v7 : IVec S_ 1 := (fun x v => Host.reduce IntOp.andi x v reducesTo_S33x2048x1024_S_d0_1_2 h_S_) main_v6 main_c_1
  let main_v8 : IVec S_ 1 := andi main_v3 main_v7
  let main_v9 : FVec F S33x1024x2048 .f32 := Host.absf main_arg7
  let main_cst_2 : FVec F S_ .f32 := constant S_ .f32 0x7F800000#32
  let main_v10 : FVec F S33x1024x2048 .f32 := broadcastInDim S33x1024x2048 ![] bcast_S_S33x1024x2048 main_cst_2
  let main_v11 : IVec S33x1024x2048 1 := cmpf .olt main_v9 main_v10
  let main_c_3 : IVec S_ 1 := constantI S_ 1 1#1
  let main_v12 : IVec S_ 1 := (fun x v => Host.reduce IntOp.andi x v reducesTo_S33x1024x2048_S_d0_1_2 h_S_) main_v11 main_c_3
  let main_v13 : IVec S_ 1 := andi main_v8 main_v12
  let main_v14 : FVec F S33x24 .f32 := Host.absf main_arg1
  let main_cst_4 : FVec F S_ .f32 := constant S_ .f32 0x7F800000#32
  let main_v15 : FVec F S33x24 .f32 := broadcastInDim S33x24 ![] bcast_S_S33x24 main_cst_4
  let main_v16 : IVec S33x24 1 := cmpf .olt main_v14 main_v15
  fn_part1 (F := F) main_arg2 main_arg4 main_arg5 main_arg6 main_arg8 main_arg9 main_arg10 main_arg13 main_arg14 main_arg15 main_arg16 main_v13 main_v16
-- ==== Kernel.lean ====
abbrev S2048x33x2048 : Shape := ⟨3, ![2048, 33, 2048]⟩
abbrev S33x24 : Shape := ⟨2, ![33, 24]⟩
abbrev S24x2048 : Shape := ⟨2, ![24, 2048]⟩
abbrev S33x2048x1024 : Shape := ⟨3, ![33, 2048, 1024]⟩
abbrev S33x1024 : Shape := ⟨2, ![33, 1024]⟩
abbrev S33x1024x2048 : Shape := ⟨3, ![33, 1024, 2048]⟩
abbrev S33x2048 : Shape := ⟨2, ![33, 2048]⟩
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S2048x1x2048 : Shape := ⟨3, ![2048, 1, 2048]⟩
abbrev S2048x2048 : Shape := ⟨2, ![2048, 2048]⟩
abbrev S1x1024 : Shape := ⟨2, ![1, 1024]⟩
abbrev S1x2048 : Shape := ⟨2, ![1, 2048]⟩
abbrev S2048x33 : Shape := ⟨2, ![2048, 33]⟩
abbrev S256x2048 : Shape := ⟨2, ![256, 2048]⟩
abbrev S256x33 : Shape := ⟨2, ![256, 33]⟩
abbrev S256x1024 : Shape := ⟨2, ![256, 1024]⟩
abbrev S256 : Shape := ⟨1, ![256]⟩
abbrev S256x1 : Shape := ⟨2, ![256, 1]⟩
abbrev S512x33 : Shape := ⟨2, ![512, 33]⟩
abbrev S1x2048x1024 : Shape := ⟨3, ![1, 2048, 1024]⟩
abbrev S1x1024x2048 : Shape := ⟨3, ![1, 1024, 2048]⟩
abbrev S512x2048 : Shape := ⟨2, ![512, 2048]⟩
abbrev S4x512x2048 : Shape := ⟨3, ![4, 512, 2048]⟩
abbrev S4x512x1 : Shape := ⟨3, ![4, 512, 1]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x1x2048 : Shape := ⟨3, ![512, 1, 2048]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩

abbrev nBuf : Space → Nat
  | .hbm => 27
  | .vmem => 23
  | .smem => 0
  | _ => 0

abbrev bufTy : (tb : Table) → Fin (tcTables nBuf tb) → BufTy
  | .hbm, ⟨0, _⟩ => ⟨S2048x33x2048, .f32⟩
  | .hbm, ⟨1, _⟩ => ⟨S33x24, .f32⟩
  | .hbm, ⟨2, _⟩ => ⟨S24x2048, .f32⟩
  | .hbm, ⟨3, _⟩ => ⟨S33x2048x1024, .f32⟩
  | .hbm, ⟨4, _⟩ => ⟨S33x1024, .f32⟩
  | .hbm, ⟨5, _⟩ => ⟨S33x1024, .f32⟩
  | .hbm, ⟨6, _⟩ => ⟨S33x1024, .f32⟩
  | .hbm, ⟨7, _⟩ => ⟨S33x1024x2048, .f32⟩
  | .hbm, ⟨8, _⟩ => ⟨S33x2048, .f32⟩
  | .hbm, ⟨9, _⟩ => ⟨S33x2048, .f32⟩
  | .hbm, ⟨10, _⟩ => ⟨S33x2048, .f32⟩
  | .hbm, ⟨11, _⟩ => ⟨S2048x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x2048, .f32⟩
  | .hbm, ⟨16, _⟩ => ⟨S2048, .f32⟩
  | .hbm, ⟨17, _⟩ => ⟨S2048x1x2048, .f32⟩
  | .hbm, ⟨18, _⟩ => ⟨S2048x2048, .f32⟩
  | .hbm, ⟨19, _⟩ => ⟨S33x2048x1024, .bf16⟩
  | .hbm, ⟨20, _⟩ => ⟨S33x1024x2048, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x33, .f32⟩
  | .hbm, ⟨26, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .f32⟩
  | .local _ .vmem, ⟨7, _⟩ => ⟨S1x2048, .f32⟩
  | .local _ .vmem, ⟨8, _⟩ => ⟨S33x24, .f32⟩
  | .local _ .vmem, ⟨9, _⟩ => ⟨S24x2048, .f32⟩
  | .local _ .vmem, ⟨10, _⟩ => ⟨S256x33, .f32⟩
  | .local _ .vmem, ⟨11, _⟩ => ⟨S256x33, .f32⟩
  | .local _ .vmem, ⟨12, _⟩ => ⟨S512x33, .f32⟩
  | .local _ .vmem, ⟨13, _⟩ => ⟨S512x33, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S512x2048, .f32⟩
  | .local _ .vmem, ⟨19, _⟩ => ⟨S512x2048, .f32⟩
  | .local _ .vmem, ⟨20, _⟩ => ⟨S4x512x2048, .f32⟩
  | .local _ .vmem, ⟨21, _⟩ => ⟨S4x512x1, .f32⟩
  | .local _ .vmem, ⟨22, _⟩ => ⟨S2x512x2048, .f32⟩
  | _, _ => ⟨S2048x33x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S33x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x33 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![33, 4], ![false, false]⟩

def k1_off1 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off2 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_1 : BitVec 32 := 0#32
  let c0_i32_2 : BitVec 32 := 0#32
  ![v2.toNat, 0, 0]
def k1_cond2 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c131_i32 : BitVec 32 := 131#32
  let v13 : BitVec 1 := Scalar.cmpi .slt v1 c131_i32
  let v14 : BitVec 32 := Scalar.extui v13
  let c0_i32_5 : BitVec 32 := 0#32
  let v15 : BitVec 1 := Scalar.cmpi .ne v14 c0_i32_5
  v15

def k1_off3 (i : grid1.Coords) : Fin 1 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v3 : BitVec 32 := Scalar.subi c1_i32 v2
  ![v3.toNat]
def k1_off4 (i : grid1.Coords) : Fin 3 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v3 : BitVec 32 := Scalar.subi c1_i32 v2
  let c0_i32_39 : BitVec 32 := 0#32
  let c0_i32_40 : BitVec 32 := 0#32
  ![v3.toNat, 0, 0]
def k1_off5 (i : grid1.Coords) : Fin 3 → Nat :=
  let arg1 : BitVec 32 := BitVec.ofNat 32 (i 1).val
  let c1_i32_34 : BitVec 32 := 1#32
  let v86 : BitVec 32 := Scalar.addi arg1 c1_i32_34
  let c4_i32_37 : BitVec 32 := 4#32
  let v90 : BitVec 1 := Scalar.cmpi .eq v86 c4_i32_37
  let c0_i32_38 : BitVec 32 := 0#32
  let v91 : BitVec 32 := Scalar.select v90 c0_i32_38 v86
  let c512_i32 : BitVec 32 := 512#32
  let v92 : BitVec 32 := Scalar.muli v91 c512_i32
  let c4_i32_35 : BitVec 32 := 4#32
  let v87 : BitVec 1 := Scalar.cmpi .eq v86 c4_i32_35
  let arg0 : BitVec 32 := BitVec.ofNat 32 (i 0).val
  let c1_i32_36 : BitVec 32 := 1#32
  let v88 : BitVec 32 := Scalar.addi arg0 c1_i32_36
  let v89 : BitVec 32 := Scalar.select v87 v88 arg0
  let c0_i32_41 : BitVec 32 := 0#32
  ![v92.toNat, v89.toNat, 0]
def k1_off6 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v16 : Index := Scalar.indexCast v2
  let c0 : Index := 0#32
  let c0_6 : Index := 0#32
  ![v16.toNat, 0, 0]
def k1_cond3 (i : grid1.Coords) : BitVec 1 :=
  let arg0 : BitVec 32 := BitVec.ofNat 32 (i 0).val
  let c32_i32 : BitVec 32 := 32#32
  let v80 : BitVec 1 := Scalar.cmpi .slt arg0 c32_i32
  let v81 : BitVec 32 := Scalar.extui v80
  let c0_i32_31 : BitVec 32 := 0#32
  let v82 : BitVec 1 := Scalar.cmpi .ne v81 c0_i32_31
  v82

def k1_off7 (i : grid1.Coords) : Fin 3 → Nat :=
  let arg1 : BitVec 32 := BitVec.ofNat 32 (i 1).val
  let v87 : Index := Scalar.indexCast arg1
  let c0_35 : Index := 0#32
  let c0_36 : Index := 0#32
  ![v87.toNat, 0, 0]
def k1_off8 (i : grid1.Coords) : Fin 3 → Nat :=
  let arg1 : BitVec 32 := BitVec.ofNat 32 (i 1).val
  let v97 : Index := Scalar.indexCast arg1
  let c0_40 : Index := 0#32
  let c0_41 : Index := 0#32
  ![v97.toNat, 0, 0]
def k1_cond4 (i : grid1.Coords) : BitVec 1 :=
  let arg0 : BitVec 32 := BitVec.ofNat 32 (i 0).val
  let c32_i32_32 : BitVec 32 := 32#32
  let v83 : BitVec 1 := Scalar.cmpi .eq arg0 c32_i32_32
  let v84 : BitVec 32 := Scalar.extui v83
  let c0_i32_33 : BitVec 32 := 0#32
  let v85 : BitVec 1 := Scalar.cmpi .ne v84 c0_i32_33
  v85

def k1_off9 (i : grid1.Coords) : Fin 3 → Nat :=
  let arg1 : BitVec 32 := BitVec.ofNat 32 (i 1).val
  let v86 : Index := Scalar.indexCast arg1
  let c0_34 : Index := 0#32
  let c0_35 : Index := 0#32
  ![v86.toNat, 0, 0]
def k1_off10 (i : grid1.Coords) : Fin 3 → Nat :=
  let arg1 : BitVec 32 := BitVec.ofNat 32 (i 1).val
  let v90 : Index := Scalar.indexCast arg1
  let c0_36 : Index := 0#32
  let c0_37 : Index := 0#32
  ![v90.toNat, 0, 0]
def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S512x33 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S2048x33x2048 : Shape := ⟨3, ![2048, 33, 2048]⟩
abbrev S33x24 : Shape := ⟨2, ![33, 24]⟩
abbrev S24x2048 : Shape := ⟨2, ![24, 2048]⟩
abbrev S33x2048x1024 : Shape := ⟨3, ![33, 2048, 1024]⟩
abbrev S33x1024 : Shape := ⟨2, ![33, 1024]⟩
abbrev S33x1024x2048 : Shape := ⟨3, ![33, 1024, 2048]⟩
abbrev S33x2048 : Shape := ⟨2, ![33, 2048]⟩
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S2048x1x2048 : Shape := ⟨3, ![2048, 1, 2048]⟩
abbrev S2048x2048 : Shape := ⟨2, ![2048, 2048]⟩
abbrev S2048x33x1024 : Shape := ⟨3, ![2048, 33, 1024]⟩
abbrev S1x33x1024 : Shape := ⟨3, ![1, 33, 1024]⟩
abbrev S_ : Shape := ⟨0, ![]⟩
abbrev S2048x33 : Shape := ⟨2, ![2048, 33]⟩
abbrev S2048x33x1 : Shape := ⟨3, ![2048, 33, 1]⟩
abbrev S33x2048x2048 : Shape := ⟨3, ![33, 2048, 2048]⟩
abbrev S1x33x2048 : Shape := ⟨3, ![1, 33, 2048]⟩
abbrev S1x1024 : Shape := ⟨2, ![1, 1024]⟩
abbrev S2048x1 : Shape := ⟨2, ![2048, 1]⟩
abbrev S1x2048 : Shape := ⟨2, ![1, 2048]⟩

abbrev nBuf : Space → Nat
  | .hbm => 180
  | .vmem => 0
  | .smem => 0
  | _ => 0

abbrev hbmTy0_0 (i : Nat) : BufTy := match i % 128 with
  | 0 => ⟨S2048x33x2048, .f32⟩
  | 1 => ⟨S33x24, .f32⟩
  | 2 => ⟨S24x2048, .f32⟩
  | 3 => ⟨S33x2048x1024, .f32⟩
  | 4 => ⟨S33x1024, .f32⟩
  | 5 => ⟨S33x1024, .f32⟩
  | 6 => ⟨S33x1024, .f32⟩
  | 7 => ⟨S33x1024x2048, .f32⟩
  | 8 => ⟨S33x2048, .f32⟩
  | 9 => ⟨S33x2048, .f32⟩
  | 10 => ⟨S33x2048, .f32⟩
  | 11 => ⟨S2048x1024, .f32⟩
  | 12 => ⟨S1024, .f32⟩
  | 13 => ⟨S1024, .f32⟩
  | 14 => ⟨S1024, .f32⟩
  | 15 => ⟨S1024x2048, .f32⟩
  | 16 => ⟨S2048, .f32⟩
  | 17 => ⟨S2048x1x2048, .f32⟩
  | 18 => ⟨S2048x2048, .f32⟩
  | 19 => ⟨S33x2048, .f32⟩
  | 20 => ⟨S33x1024x2048, .f32⟩
  | 21 => ⟨S2048x33x1024, .f32⟩
  | 22 => ⟨S1x33x1024, .f32⟩
  | 23 => ⟨S2048x33x1024, .f32⟩
  | 24 => ⟨S2048x33x1024, .f32⟩
  | 25 => ⟨S_, .f32⟩
  | 26 => ⟨S2048x33x1024, .f32⟩
  | 27 => ⟨S2048x33x1024, .f32⟩
  | 28 => ⟨S2048x33x1024, .f32⟩
  | 29 => ⟨S_, .f32⟩
  | 30 => ⟨S2048x33x1024, .f32⟩
  | 31 => ⟨S2048x33x1024, .f32⟩
  | 32 => ⟨S2048x33x1024, .f32⟩
  | 33 => ⟨S2048x33x1024, .f32⟩
  | 34 => ⟨S_, .f32⟩
  | 35 => ⟨S2048x33, .f32⟩
  | 36 => ⟨S2048x33x1, .f32⟩
  | 37 => ⟨S_, .f32⟩
  | 38 => ⟨S2048x33x1, .f32⟩
  | 39 => ⟨S2048x33x1, .f32⟩
  | 40 => ⟨S2048x33x1024, .f32⟩
  | 41 => ⟨S2048x33x1024, .f32⟩
  | 42 => ⟨S2048x33x1024, .f32⟩
  | 43 => ⟨S_, .f32⟩
  | 44 => ⟨S2048x33, .f32⟩
  | 45 => ⟨S2048x33x1, .f32⟩
  | 46 => ⟨S_, .f32⟩
  | 47 => ⟨S2048x33x1, .f32⟩
  | 48 => ⟨S2048x33x1, .f32⟩
  | 49 => ⟨S2048x33x1024, .f32⟩
  | 50 => ⟨S2048x33x1024, .f32⟩
  | 51 => ⟨S_, .f32⟩
  | 52 => ⟨S2048x33x1, .f32⟩
  | 53 => ⟨S2048x33x1, .f32⟩
  | 54 => ⟨S2048x33x1, .f32⟩
  | 55 => ⟨S2048x33x1024, .f32⟩
  | 56 => ⟨S2048x33x1024, .f32⟩
  | 57 => ⟨S1x33x1024, .f32⟩
  | 58 => ⟨S2048x33x1024, .f32⟩
  | 59 => ⟨S2048x33x1024, .f32⟩
  | 60 => ⟨S1x33x1024, .f32⟩
  | 61 => ⟨S2048x33x1024, .f32⟩
  | 62 => ⟨S2048x33x1024, .f32⟩
  | 63 => ⟨S33x2048x2048, .f32⟩
  | 64 => ⟨S2048x33x2048, .f32⟩
  | 65 => ⟨S1x33x2048, .f32⟩
  | 66 => ⟨S2048x33x2048, .f32⟩
  | 67 => ⟨S2048x33x2048, .f32⟩
  | 68 => ⟨S_, .f32⟩
  | 69 => ⟨S2048x33, .f32⟩
  | 70 => ⟨S2048x33x1, .f32⟩
  | 71 => ⟨S_, .f32⟩
  | 72 => ⟨S2048x33x1, .f32⟩
  | 73 => ⟨S2048x33x1, .f32⟩
  | 74 => ⟨S2048x33x2048, .f32⟩
  | 75 => ⟨S2048x33x2048, .f32⟩
  | 76 => ⟨S2048x33x2048, .f32⟩
  | 77 => ⟨S_, .f32⟩
  | 78 => ⟨S2048x33, .f32⟩
  | 79 => ⟨S2048x33x1, .f32⟩
  | 80 => ⟨S_, .f32⟩
  | 81 => ⟨S2048x33x1, .f32⟩
  | 82 => ⟨S2048x33x1, .f32⟩
  | 83 => ⟨S2048x33x2048, .f32⟩
  | 84 => ⟨S2048x33x2048, .f32⟩
  | 85 => ⟨S_, .f32⟩
  | 86 => ⟨S2048x33x1, .f32⟩
  | 87 => ⟨S2048x33x1, .f32⟩
  | 88 => ⟨S2048x33x1, .f32⟩
  | 89 => ⟨S2048x33x2048, .f32⟩
  | 90 => ⟨S2048x33x2048, .f32⟩
  | 91 => ⟨S1x33x2048, .f32⟩
  | 92 => ⟨S2048x33x2048, .f32⟩
  | 93 => ⟨S2048x33x2048, .f32⟩
  | 94 => ⟨S1x33x2048, .f32⟩
  | 95 => ⟨S2048x33x2048, .f32⟩
  | 96 => ⟨S2048x33x2048, .f32⟩
  | 97 => ⟨S2048x1024, .f32⟩
  | 98 => ⟨S1x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S2048x1024, .f32⟩
  | 105 => ⟨S_, .f32⟩
  | 106 => ⟨S2048x1024, .f32⟩
  | 107 => ⟨S2048x1024, .f32⟩
  | 108 => ⟨S2048x1024, .f32⟩
  | 109 => ⟨S2048x1024, .f32⟩
  | 110 => ⟨S_, .f32⟩
  | 111 => ⟨S2048, .f32⟩
  | 112 => ⟨S2048x1, .f32⟩
  | 113 => ⟨S_, .f32⟩
  | 114 => ⟨S2048x1, .f32⟩
  | 115 => ⟨S2048x1, .f32⟩
  | 116 => ⟨S2048x1024, .f32⟩
  | 117 => ⟨S2048x1024, .f32⟩
  | 118 => ⟨S2048x1024, .f32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S2048x1024, .f32⟩
  | 126 => ⟨S2048x1024, .f32⟩
  | 127 => ⟨S_, .f32⟩
  | _ => ⟨S2048x33x2048, .f32⟩

abbrev hbmTy0_1 (i : Nat) : BufTy := match i % 128 with
  | 0 => ⟨S2048x1, .f32⟩
  | 1 => ⟨S2048x1, .f32⟩
  | 2 => ⟨S2048x1, .f32⟩
  | 3 => ⟨S2048x1024, .f32⟩
  | 4 => ⟨S2048x1024, .f32⟩
  | 5 => ⟨S1x1024, .f32⟩
  | 6 => ⟨S2048x1024, .f32⟩
  | 7 => ⟨S2048x1024, .f32⟩
  | 8 => ⟨S1x1024, .f32⟩
  | 9 => ⟨S2048x1024, .f32⟩
  | 10 => ⟨S2048x1024, .f32⟩
  | 11 => ⟨S2048x2048, .f32⟩
  | 12 => ⟨S1x2048, .f32⟩
  | 13 => ⟨S2048x2048, .f32⟩
  | 14 => ⟨S2048x2048, .f32⟩
  | 15 => ⟨S2048x2048, .f32⟩
  | 16 => ⟨S_, .f32⟩
  | 17 => ⟨S2048x2048, .f32⟩
  | 18 => ⟨S2048x2048, .i1⟩
  | 19 => ⟨S_, .f32⟩
  | 20 => ⟨S2048x2048, .f32⟩
  | 21 => ⟨S2048x2048, .i1⟩
  | 22 => ⟨S_, .f32⟩
  | 23 => ⟨S_, .f32⟩
  | 24 => ⟨S2048x2048, .f32⟩
  | 25 => ⟨S2048x2048, .f32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S2048x33, .f32⟩
  | 35 => ⟨S2048x33, .f32⟩
  | 36 => ⟨S_, .f32⟩
  | 37 => ⟨S2048, .f32⟩
  | 38 => ⟨S_, .f32⟩
  | 39 => ⟨S2048, .f32⟩
  | 40 => ⟨S2048, .f32⟩
  | 41 => ⟨S2048x1, .f32⟩
  | 42 => ⟨S2048x33, .f32⟩
  | 43 => ⟨S2048x33, .f32⟩
  | 44 => ⟨S2048x33, .f32⟩
  | 45 => ⟨S_, .f32⟩
  | 46 => ⟨S2048, .f32⟩
  | 47 => ⟨S2048x1, .f32⟩
  | 48 => ⟨S2048x33, .f32⟩
  | 49 => ⟨S2048x33, .f32⟩
  | 50 => ⟨S2048x2048, .f32⟩
  | 51 => ⟨S2048x2048, .f32⟩
  | _ => ⟨S2048x33x2048, .f32⟩

abbrev hbmTy (i : Nat) : BufTy := match i / 128 with
  | 0 => hbmTy0_0 i
  | 1 => hbmTy0_1 i
  | _ => ⟨S2048x33x2048, .f32⟩

abbrev bufTy : (tb : Table) → Fin (tcTables nBuf tb) → BufTy
  | .hbm, ⟨i, _⟩ => hbmTy i
  | _, _ => ⟨S2048x33x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_11 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_17 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_call0_cst : Ref sig .tc := ⟨.hbm, 144, rfl⟩
abbrev main_call0_v0 : Ref sig .tc := ⟨.hbm, 145, rfl⟩
abbrev main_call0_v1 : Ref sig .tc := ⟨.hbm, 146, rfl⟩
abbrev main_call0_cst_0 : Ref sig .tc := ⟨.hbm, 147, rfl⟩
abbrev main_call0_v2 : Ref sig .tc := ⟨.hbm, 148, rfl⟩
abbrev main_call0_v3 : Ref sig .tc := ⟨.hbm, 149, rfl⟩
abbrev main_call0_cst_1 : Ref sig .tc := ⟨.hbm, 150, rfl⟩
abbrev main_call0_call0_v0 : Ref sig .tc := ⟨.hbm, 151, rfl⟩
abbrev main_call0_call0_v1 : Ref sig .tc := ⟨.hbm, 152, rfl⟩
abbrev main_call0_v4 : Ref sig .tc := ⟨.hbm, 153, rfl⟩
abbrev main_call0_v5 : Ref sig .tc := ⟨.hbm, 154, rfl⟩
abbrev main_call0_cst_2 : Ref sig .tc := ⟨.hbm, 155, rfl⟩
abbrev main_call0_v6 : Ref sig .tc := ⟨.hbm, 156, rfl⟩
abbrev main_call0_v7 : Ref sig .tc := ⟨.hbm, 157, rfl⟩
abbrev main_v108 : Ref sig .tc := ⟨.hbm, 158, rfl⟩
abbrev main_cst_18 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_19 : Ref sig .tc := ⟨.hbm, 164, rfl⟩
abbrev main_v113 : Ref sig .tc := ⟨.hbm, 165, rfl⟩
abbrev main_cst_20 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_21 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩

abbrev nD : Nat := 1
abbrev τ : Topo := Topo.v7x

variable {F : FTy → Type} [FloatOps F]
-- ==== Proof.PointRuns.lean ====
module

public import proofs.«01_k».proof.Proof.Gen.KernelIdeal
public import proofs.«01_k».proof.Proof.Gen.KernelIdeal.Skeleton
public import Idealize.ShloMosaic.Lib.Tactic
public import Idealize.ShloMosaic.Lib.Pipeline.Kit
public import Idealize.ShloMosaic.Lib.Ring

@[expose] public section

noncomputable section

/-! What the second call's body does at a point, by the conditions it takes: the first point, the points between, the last source's points
and the last point. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof keeps beside the memory: the pipeline's tokens and the counters. -/
abbrev UU (nD : Nat) (τ : Topo) : Type := UR sig nD τ × Counters

local notation "𝕄" => MT nD τ sig Unit (Elt F) ℕ (UU nD τ) ℕ

/-- The contents of the buffer a view reads. -/
abbrev Bf (c : Dev nD) {sp : Space} {S : Shape} {e : EltTy} (M : Memref sig .tc sp S e) : Type := Buf (Elt F) (M.view.loc (c : Thread nD τ))
/-- A view's whole buffer, held with its contents. -/
abbrev pt (c : Dev nD) {sp : Space} {S : Shape} {e : EltTy} (M : Memref sig .tc sp S e) (f : Bf (F := F) c M) : sProp 𝕄 :=
  M.view.loc (c : Thread nD τ) ↦{fullShare} f
/-- The elements a view covers, held at a share. -/
abbrev ptOn (c : Dev nD) {sp : Space} {S : Shape} {e : EltTy} (M : Memref sig .tc sp S e) (q : PosShare TreeShare) (f : Bf (F := F) c M) : sProp 𝕄 :=
  M.view.loc (c : Thread nD τ) ↦[M.view.set]{q} f

/-- A slot of the block buffer, at an offset. -/
abbrev slotM (o : Fin 3 → ℕ) (h : ∀ a, o a + S1x512x2048.size a ≤ S2x512x2048.size a) : Memref sig .tc .vmem S512x2048 .f32 :=
  ((Memref.whole cc1_scratch2).slice (Rect.unit (s := S2x512x2048) o S1x512x2048.size h) (fun _ => rfl)).squeeze S512x2048 squeezes_S1x512x2048_S512x2048

/-- A block of rows of one source of `x`, at an offset. -/
abbrev xM (o : Fin 3 → ℕ) (h : ∀ a, o a + S512x1x2048.size a ≤ S2048x33x2048.size a) : Memref sig .tc .hbm S512x2048 .f32 :=
  ((Memref.whole main_arg0).slice (Rect.unit (s := S2048x33x2048) o S512x1x2048.size h) (fun _ => rfl)).squeeze S512x2048 squeezes_S512x1x2048_S512x2048

/-- One of the second call's two semaphores, at an offset. -/
abbrev semM (o : Fin 1 → ℕ) (h : ∀ a, o a + S1.size a ≤ S2.size a) : DmaSem sig :=
  ((cc1_scratch3.slice (Rect.unit (s := S2) o S1.size h)).squeeze S_ squeezes_S1_S_).sem

/-- A transfer in flight from a block of `x` to a slot, on a semaphore. -/
abbrev flightOf (c : Dev nD) (sm : DmaSem sig) (S : Memref sig .tc .vmem S512x2048 .f32) (X : Memref sig .tc .hbm S512x2048 .f32)
    (q : PosShare TreeShare) (fd : Bf (F := F) c S) (fx : Bf (F := F) c X) : sProp 𝕄 :=
  Transfers.Flight (countersEmb (U := UU nD τ)) (c : Thread nD τ) (.dma sm) () 131072
    iprop(ptOn c S fullShare fd ∗ ptOn c X q fx)

/-- The condition under which the body issues the first transfer, as the body computes it. -/
abbrev C1 (i : grid1.Coords) : BitVec 1 :=
  Scalar.cmpi .ne (Scalar.extui (Scalar.cmpi .eq (Scalar.addi (Scalar.muli (BitVec.ofNat 32 (i 0).val) 4#32) (BitVec.ofNat 32 (i 1).val)) 0#32) : BitVec 32) 0#32

/-- One over the hidden row's length, as the kernel writes it. -/
def mean1 : F .f32 := Scalar.ofBits .f32 0x3A800000#32

/-- The values a point computes from its rows and weights. -/
def valV (xs : Vec F S1x512x2048 .f32) (w1 : Vec F S1x2048x1024 .bf16) (w2 : Vec F S1x1024x2048 .bf16) : FVec F S512x2048 .f32 :=
  k1_pay9 (k1_pay7 xs w1) (k1_pay8 xs w1) mean1 w2
/-- The means of a point's values. -/
def muV (xs : Vec F S1x512x2048 .f32) (w1 : Vec F S1x2048x1024 .bf16) (w2 : Vec F S1x1024x2048 .bf16) : FVec F S512x1 .f32 :=
  k1_pay10 (k1_pay7 xs w1) (k1_pay8 xs w1) mean1 w2
/-- The factors of a point's values: reciprocal deviation times attention. -/
def scaleV (a0 : BitVec 32) (xs : Vec F S1x512x2048 .f32) (w1 : Vec F S1x2048x1024 .bf16) (w2 : Vec F S1x1024x2048 .bf16) (at' : Vec F S512x33 .f32) : FVec F S512x1 .f32 :=
  k1_pay11 a0 (k1_pay7 xs w1) (k1_pay8 xs w1) mean1 w2 at'
/-- The sum of weighted values after a point, from the sum before it. -/
def accNext (a0 : BitVec 32) (xs : Vec F S1x512x2048 .f32) (w1 : Vec F S1x2048x1024 .bf16) (w2 : Vec F S1x1024x2048 .bf16) (at' : Vec F S512x33 .f32)
    (old : Vec F S1x512x2048 .f32) : Vec F S1x512x2048 .f32 :=
  k1_pay3 a0 (valV xs w1 w2) (scaleV a0 xs w1 w2 at') old
/-- The sum of weighted means after a point, from the sum before it. -/
def saccNext (a0 : BitVec 32) (xs : Vec F S1x512x2048 .f32) (w1 : Vec F S1x2048x1024 .bf16) (w2 : Vec F S1x1024x2048 .bf16) (at' : Vec F S512x33 .f32)
    (old : Vec F S1x512x1 .f32) : Vec F S1x512x1 .f32 :=
  k1_pay4 a0 (muV xs w1 w2) (scaleV a0 xs w1 w2 at') old
/-- What the last source's points write to the result. -/
def outV (a0 : BitVec 32) (xs : Vec F S1x512x2048 .f32) (w1 : Vec F S1x2048x1024 .bf16) (w2 : Vec F S1x1024x2048 .bf16) (at' : Vec F S512x33 .f32)
    (acc : Vec F S1x512x2048 .f32) (sacc : Vec F S1x512x1 .f32) : Vec F S512x2048 .f32 :=
  k1_pay5 (k1_pay6 xs) (valV xs w1 w2) (muV xs w1 w2) (scaleV a0 xs w1 w2 at') acc sacc

/-- The rows a point loads from its slot. -/
def ldX (c : Dev nD) (i : grid1.Coords) (fd : Bf (F := F) c (Memref.whole cc1_scratch2)) : Vec F S1x512x2048 .f32 :=
  View.readAt (Elt F) (Memref.whole cc1_scratch2).view (Rect.unit (s := S2x512x2048) (k1_off6 i) S1x512x2048.size (k1_off6_inb i)).toLoadRect fd
/-- The attention block a point loads. -/
def ld3 (c : Dev nD) (M : Memref sig .tc .vmem S512x33 .f32) (f : Bf (F := F) c M) : Vec F S512x33 .f32 :=
  View.readAt (Elt F) M.view (Rect.unit (s := S512x33) ![0, 0] S512x33.size inb_S512x33_S512x33_0_0).toLoadRect f
/-- The block of first weights a point loads. -/
def ld4 (c : Dev nD) (M : Memref sig .tc .vmem S1x2048x1024 .bf16) (f : Bf (F := F) c M) : Vec F S1x2048x1024 .bf16 :=
  View.readAt (Elt F) M.view (Rect.unit (s := S1x2048x1024) ![0, 0, 0] S1x2048x1024.size inb_S1x2048x1024_S1x2048x1024_0_0_0).toLoadRect f
/-- The block of second weights a point loads. -/
def ld5 (c : Dev nD) (M : Memref sig .tc .vmem S1x1024x2048 .bf16) (f : Bf (F := F) c M) : Vec F S1x1024x2048 .bf16 :=
  View.readAt (Elt F) M.view (Rect.unit (s := S1x1024x2048) ![0, 0, 0] S1x1024x2048.size inb_S1x1024x2048_S1x1024x2048_0_0_0).toLoadRect f

/-- The block buffer after a transfer has landed in a slot. -/
def landed (c : Dev nD) (S : Memref sig .tc .vmem S512x2048 .f32) (X : Memref sig .tc .hbm S512x2048 .f32) (fe : Bf (F := F) c S) (fx : Bf (F := F) c X) : Bf (F := F) c S :=
  S.view.writes (Elt F) fe [⟨Rect.whole S512x2048, X.view.read (Elt F) fx⟩]

/-- A flight named by equal offsets is the same flight. -/
theorem flight_cast (c : Dev nD) {o o' : Fin 1 → ℕ} {p p' : Fin 3 → ℕ} (e : o = o') (e' : p = p')
    (h : ∀ a, o a + S1.size a ≤ S2.size a) (h' : ∀ a, o' a + S1.size a ≤ S2.size a)
    (k : ∀ a, p a + S1x512x2048.size a ≤ S2x512x2048.size a) (k' : ∀ a, p' a + S1x512x2048.size a ≤ S2x512x2048.size a)
    (X : Memref sig .tc .hbm S512x2048 .f32) (q : PosShare TreeShare) (fd : Bf (F := F) c (Memref.whole cc1_scratch2)) (fx : Bf (F := F) c X) :
    flightOf c (semM o h) (slotM p k) X q fd fx = flightOf c (semM o' h') (slotM p' k') X q fd fx := by
  subst e; subst e'; rfl

/-- The body at the first point: it starts its own transfer, awaits it, starts the next one and stores both sums. -/
theorem point_first (c : Dev nD) (i : grid1.Coords)
    (h1 : C1 i = 1#1)
    (h2 : k1_cond2 i = 1#1) (h3 : k1_cond3 i = 1#1) (h4 : ¬ k1_cond4 i = 1#1)
    (e1 : (![0] : Fin 1 → ℕ) = k1_off1 i) (e2 : (![0, 0, 0] : Fin 3 → ℕ) = k1_off2 i) (q q' : PosShare TreeShare)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole)
    (f3 : Bf (F := F) c M3) (f4 : Bf (F := F) c M4) (f5 : Bf (F := F) c M5) (f6 : Bf (F := F) c M6)
    (f7 : Bf (F := F) c (Memref.whole cc1_scratch0)) (f8 : Bf (F := F) c (Memref.whole cc1_scratch1))
    (fg fe : Bf (F := F) c (Memref.whole cc1_scratch2))
    (fx : Bf (F := F) c (Memref.whole main_arg0))
    (W : Waits sig Unit) (Q : _ → sProp 𝕄) :
    iprop(ptOn c (slotM ![0, 0, 0] inb_S2x512x2048_S1x512x2048_0_0_0) fullShare fg
      ∗ ptOn c (xM ![0, 0, 0] inb_S2048x33x2048_S512x1x2048_0_0_0) q fx
      ∗ semVal ((c : Thread nD τ), .dma (semM ![0] inb_S2_S1_0)) 0
      ∗ ptOn c (slotM (k1_off4 i) (k1_off4_inb i h2)) fullShare fe
      ∗ ptOn c (xM (k1_off5 i) (k1_off5_inb i h2)) q' fx
      ∗ semVal ((c : Thread nD τ), .dma (semM (k1_off3 i) (k1_off3_inb i h2))) 0
      ∗ pt c M3 f3 ∗ pt c M4 f4 ∗ pt c M5 f5 ∗ pt c M6 f6
      ∗ pt c (Memref.whole cc1_scratch0) f7 ∗ pt c (Memref.whole cc1_scratch1) f8
      ∗ owes (c : Thread nD τ) 0 W
      ∗ (iprop(ptOn c (slotM (k1_off2 i) (k1_off2_inb i)) fullShare (landed c (slotM ![0, 0, 0] inb_S2x512x2048_S1x512x2048_0_0_0) (xM ![0, 0, 0] inb_S2048x33x2048_S512x1x2048_0_0_0) fg fx)
          ∗ ptOn c (xM ![0, 0, 0] inb_S2048x33x2048_S512x1x2048_0_0_0) q fx
          ∗ semVal ((c : Thread nD τ), .dma (semM (k1_off1 i) (k1_off1_inb i))) 0
          ∗ flightOf c (semM (k1_off3 i) (k1_off3_inb i h2)) (slotM (k1_off4 i) (k1_off4_inb i h2)) (xM (k1_off5 i) (k1_off5_inb i h2)) q'
              (landed c (slotM (k1_off4 i) (k1_off4_inb i h2)) (xM (k1_off5 i) (k1_off5_inb i h2)) fe fx) fx
          ∗ pt c M3 f3 ∗ pt c M4 f4 ∗ pt c M5 f5 ∗ pt c M6 f6
          ∗ pt c (Memref.whole cc1_scratch0) ((Memref.whole cc1_scratch0).view.writes (Elt F) f7
              [⟨Rect.unit (s := S4x512x2048) (k1_off7 i) S1x512x2048.size (k1_off7_inb i h3),
                accNext (BitVec.ofNat 32 (i 0).val) (ldX c i (landed c (slotM ![0, 0, 0] inb_S2x512x2048_S1x512x2048_0_0_0) (xM ![0, 0, 0] inb_S2048x33x2048_S512x1x2048_0_0_0) fg fx)) (ld4 c M4 f4) (ld5 c M5 f5) (ld3 c M3 f3)
                  (View.readAt (Elt F) (Memref.whole cc1_scratch0).view (Rect.unit (s := S4x512x2048) (k1_off7 i) S1x512x2048.size (k1_off7_inb i h3)).toLoadRect f7)⟩])
          ∗ pt c (Memref.whole cc1_scratch1) ((Memref.whole cc1_scratch1).view.writes (Elt F) f8
              [⟨Rect.unit (s := S4x512x1) (k1_off8 i) S1x512x1.size (k1_off8_inb i h3),
                saccNext (BitVec.ofNat 32 (i 0).val) (ldX c i (landed c (slotM ![0, 0, 0] inb_S2x512x2048_S1x512x2048_0_0_0) (xM ![0, 0, 0] inb_S2048x33x2048_S512x1x2048_0_0_0) fg fx)) (ld4 c M4 f4) (ld5 c M5 f5) (ld3 c M3 f3)
                  (View.readAt (Elt F) (Memref.whole cc1_scratch1).view (Rect.unit (s := S4x512x1) (k1_off8 i) S1x512x1.size (k1_off8_inb i h3)).toLoadRect f8)⟩])
          ∗ ∃ W, owes (c : Thread nD τ) 0 W) -∗ Q ⟨⟩))
    ⊢ wp frame (wpE (defs₀ (F := F)) Variants.none c none) Set.univ
        (cc1_dwatt_value_mlp_pool i (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3) Q := by
  iintro ⟨Hsa, Hxa, HF, Hs, Hx, Hm, H3, H4, H5, H6, H7, H8, HO, Hk⟩
  simp only [cc1_dwatt_value_mlp_pool_eq_skeleton]
  unfold cc1_dwatt_value_mlp_pool_skel
  simp only [k1_part1_eq_skeleton, k1_part2_eq_skeleton]
  unfold k1_part1_skel k1_part2_skel
  sl_exec
  ihave HG : flightOf c (semM ![0] inb_S2_S1_0) (slotM ![0, 0, 0] inb_S2x512x2048_S1x512x2048_0_0_0)
    (xM ![0, 0, 0] inb_S2048x33x2048_S512x1x2048_0_0_0) q
    (landed c (slotM ![0, 0, 0] inb_S2x512x2048_S1x512x2048_0_0_0) (xM ![0, 0, 0] inb_S2048x33x2048_S512x1x2048_0_0_0) fg fx) fx $$ [HF]
  · iexact HF
  ihave HF := (Entails.of_eq (flight_cast c e1 e2 _ (k1_off1_inb i) _ (k1_off2_inb i)
    (xM ![0, 0, 0] inb_S2048x33x2048_S512x1x2048_0_0_0) q
    (landed c (slotM ![0, 0, 0] inb_S2x512x2048_S1x512x2048_0_0_0) (xM ![0, 0, 0] inb_S2048x33x2048_S512x1x2048_0_0_0) fg fx) fx)) $$ HG
  sl_exec
  sl_step
  iapply Hk
  isplitl [HF_dst]; · iexact HF_dst
  isplitl [HF_src]; · iexact HF_src
  isplitl [HF]; · iexact HF
  isplitl [Hm]; · iexact Hm
  isplitl [H3]; · iexact H3
  isplitl [H4]; · iexact H4
  isplitl [H5]; · iexact H5
  isplitl [H6]; · iexact H6
  isplitl [H7]; · iexact H7
  isplitl [H8]; · iexact H8
  iexists _; iexact HO

/-- The body at a point between: it awaits the transfer in flight, starts the next one and stores both sums. -/
theorem point_mid (c : Dev nD) (i : grid1.Coords)
    (h1 : ¬ C1 i = 1#1)
    (h2 : k1_cond2 i = 1#1) (h3 : k1_cond3 i = 1#1) (h4 : ¬ k1_cond4 i = 1#1)
    (ox : Fin 3 → ℕ) (hox : ∀ a, ox a + S512x1x2048.size a ≤ S2048x33x2048.size a) (q q' : PosShare TreeShare)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole)
    (f3 : Bf (F := F) c M3) (f4 : Bf (F := F) c M4) (f5 : Bf (F := F) c M5) (f6 : Bf (F := F) c M6)
    (f7 : Bf (F := F) c (Memref.whole cc1_scratch0)) (f8 : Bf (F := F) c (Memref.whole cc1_scratch1))
    (fd : Bf (F := F) c (Memref.whole cc1_scratch2)) (fe : Bf (F := F) c (Memref.whole cc1_scratch2))
    (fx : Bf (F := F) c (Memref.whole main_arg0))
    (W : Waits sig Unit) (Q : _ → sProp 𝕄) :
    iprop(flightOf c (semM (k1_off1 i) (k1_off1_inb i)) (slotM (k1_off2 i) (k1_off2_inb i)) (xM ox hox) q fd fx
      ∗ ptOn c (slotM (k1_off4 i) (k1_off4_inb i h2)) fullShare fe
      ∗ ptOn c (xM (k1_off5 i) (k1_off5_inb i h2)) q' fx
      ∗ semVal ((c : Thread nD τ), .dma (semM (k1_off3 i) (k1_off3_inb i h2))) 0
      ∗ pt c M3 f3 ∗ pt c M4 f4 ∗ pt c M5 f5 ∗ pt c M6 f6
      ∗ pt c (Memref.whole cc1_scratch0) f7 ∗ pt c (Memref.whole cc1_scratch1) f8
      ∗ owes (c : Thread nD τ) 0 W
      ∗ (iprop(ptOn c (slotM (k1_off2 i) (k1_off2_inb i)) fullShare fd
          ∗ ptOn c (xM ox hox) q fx
          ∗ semVal ((c : Thread nD τ), .dma (semM (k1_off1 i) (k1_off1_inb i))) 0
          ∗ flightOf c (semM (k1_off3 i) (k1_off3_inb i h2)) (slotM (k1_off4 i) (k1_off4_inb i h2)) (xM (k1_off5 i) (k1_off5_inb i h2)) q'
              (landed c (slotM (k1_off4 i) (k1_off4_inb i h2)) (xM (k1_off5 i) (k1_off5_inb i h2)) fe fx) fx
          ∗ pt c M3 f3 ∗ pt c M4 f4 ∗ pt c M5 f5 ∗ pt c M6 f6
          ∗ pt c (Memref.whole cc1_scratch0) ((Memref.whole cc1_scratch0).view.writes (Elt F) f7
              [⟨Rect.unit (s := S4x512x2048) (k1_off7 i) S1x512x2048.size (k1_off7_inb i h3),
                accNext (BitVec.ofNat 32 (i 0).val) (ldX c i fd) (ld4 c M4 f4) (ld5 c M5 f5) (ld3 c M3 f3)
                  (View.readAt (Elt F) (Memref.whole cc1_scratch0).view (Rect.unit (s := S4x512x2048) (k1_off7 i) S1x512x2048.size (k1_off7_inb i h3)).toLoadRect f7)⟩])
          ∗ pt c (Memref.whole cc1_scratch1) ((Memref.whole cc1_scratch1).view.writes (Elt F) f8
              [⟨Rect.unit (s := S4x512x1) (k1_off8 i) S1x512x1.size (k1_off8_inb i h3),
                saccNext (BitVec.ofNat 32 (i 0).val) (ldX c i fd) (ld4 c M4 f4) (ld5 c M5 f5) (ld3 c M3 f3)
                  (View.readAt (Elt F) (Memref.whole cc1_scratch1).view (Rect.unit (s := S4x512x1) (k1_off8 i) S1x512x1.size (k1_off8_inb i h3)).toLoadRect f8)⟩])
          ∗ ∃ W, owes (c : Thread nD τ) 0 W) -∗ Q ⟨⟩))
    ⊢ wp frame (wpE (defs₀ (F := F)) Variants.none c none) Set.univ
        (cc1_dwatt_value_mlp_pool i (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3) Q := by
  iintro ⟨HF, Hs, Hx, Hm, H3, H4, H5, H6, H7, H8, HO, Hk⟩
  simp only [cc1_dwatt_value_mlp_pool_eq_skeleton]
  unfold cc1_dwatt_value_mlp_pool_skel
  simp only [k1_part1_eq_skeleton, k1_part2_eq_skeleton]
  unfold k1_part1_skel k1_part2_skel
  sl_exec
  sl_step
  iapply Hk
  isplitl [HF_dst]; · iexact HF_dst
  isplitl [HF_src]; · iexact HF_src
  isplitl [HF]; · iexact HF
  isplitl [Hm]; · iexact Hm
  isplitl [H3]; · iexact H3
  isplitl [H4]; · iexact H4
  isplitl [H5]; · iexact H5
  isplitl [H6]; · iexact H6
  isplitl [H7]; · iexact H7
  isplitl [H8]; · iexact H8
  iexists _; iexact HO

/-- The body at the last source's points but the last: it awaits, starts the next transfer and writes the result's block. -/
theorem point_last_row (c : Dev nD) (i : grid1.Coords)
    (h1 : ¬ C1 i = 1#1)
    (h2 : k1_cond2 i = 1#1) (h3 : ¬ k1_cond3 i = 1#1) (h4 : k1_cond4 i = 1#1)
    (ox : Fin 3 → ℕ) (hox : ∀ a, ox a + S512x1x2048.size a ≤ S2048x33x2048.size a) (q q' : PosShare TreeShare)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole)
    (f3 : Bf (F := F) c M3) (f4 : Bf (F := F) c M4) (f5 : Bf (F := F) c M5) (f6 : Bf (F := F) c M6)
    (f7 : Bf (F := F) c (Memref.whole cc1_scratch0)) (f8 : Bf (F := F) c (Memref.whole cc1_scratch1))
    (fd : Bf (F := F) c (Memref.whole cc1_scratch2)) (fe : Bf (F := F) c (Memref.whole cc1_scratch2))
    (fx : Bf (F := F) c (Memref.whole main_arg0))
    (W : Waits sig Unit) (Q : _ → sProp 𝕄) :
    iprop(flightOf c (semM (k1_off1 i) (k1_off1_inb i)) (slotM (k1_off2 i) (k1_off2_inb i)) (xM ox hox) q fd fx
      ∗ ptOn c (slotM (k1_off4 i) (k1_off4_inb i h2)) fullShare fe
      ∗ ptOn c (xM (k1_off5 i) (k1_off5_inb i h2)) q' fx
      ∗ semVal ((c : Thread nD τ), .dma (semM (k1_off3 i) (k1_off3_inb i h2))) 0
      ∗ pt c M3 f3 ∗ pt c M4 f4 ∗ pt c M5 f5 ∗ pt c M6 f6
      ∗ pt c (Memref.whole cc1_scratch0) f7 ∗ pt c (Memref.whole cc1_scratch1) f8
      ∗ owes (c : Thread nD τ) 0 W
      ∗ (iprop(ptOn c (slotM (k1_off2 i) (k1_off2_inb i)) fullShare fd
          ∗ ptOn c (xM ox hox) q fx
          ∗ semVal ((c : Thread nD τ), .dma (semM (k1_off1 i) (k1_off1_inb i))) 0
          ∗ flightOf c (semM (k1_off3 i) (k1_off3_inb i h2)) (slotM (k1_off4 i) (k1_off4_inb i h2)) (xM (k1_off5 i) (k1_off5_inb i h2)) q'
              (landed c (slotM (k1_off4 i) (k1_off4_inb i h2)) (xM (k1_off5 i) (k1_off5_inb i h2)) fe fx) fx
          ∗ pt c M3 f3 ∗ pt c M4 f4 ∗ pt c M5 f5
          ∗ pt c M6 (M6.view.writes (Elt F) f6 [⟨Rect.unit (s := S512x2048) ![0, 0] S512x2048.size inb_S512x2048_S512x2048_0_0,
              outV (BitVec.ofNat 32 (i 0).val) (ldX c i fd) (ld4 c M4 f4) (ld5 c M5 f5) (ld3 c M3 f3)
                  (View.readAt (Elt F) (Memref.whole cc1_scratch0).view (Rect.unit (s := S4x512x2048) (k1_off9 i) S1x512x2048.size (k1_off9_inb i h4)).toLoadRect f7)
                  (View.readAt (Elt F) (Memref.whole cc1_scratch1).view (Rect.unit (s := S4x512x1) (k1_off10 i) S1x512x1.size (k1_off10_inb i h4)).toLoadRect f8)⟩])
          ∗ pt c (Memref.whole cc1_scratch0) f7 ∗ pt c (Memref.whole cc1_scratch1) f8
          ∗ ∃ W, owes (c : Thread nD τ) 0 W) -∗ Q ⟨⟩))
    ⊢ wp frame (wpE (defs₀ (F := F)) Variants.none c none) Set.univ
        (cc1_dwatt_value_mlp_pool i (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3) Q := by
  iintro ⟨HF, Hs, Hx, Hm, H3, H4, H5, H6, H7, H8, HO, Hk⟩
  simp only [cc1_dwatt_value_mlp_pool_eq_skeleton]
  unfold cc1_dwatt_value_mlp_pool_skel
  simp only [k1_part1_eq_skeleton, k1_part2_eq_skeleton]
  unfold k1_part1_skel k1_part2_skel
  sl_exec
  sl_step
  iapply Hk
  isplitl [HF_dst]; · iexact HF_dst
  isplitl [HF_src]; · iexact HF_src
  isplitl [HF]; · iexact HF
  isplitl [Hm]; · iexact Hm
  isplitl [H3]; · iexact H3
  isplitl [H4]; · iexact H4
  isplitl [H5]; · iexact H5
  isplitl [H6]; · iexact H6
  isplitl [H7]; · iexact H7
  isplitl [H8]; · iexact H8
  iexists _; iexact HO

/-- The body at the last point: it awaits the last transfer and writes the result's block. -/
theorem point_last_point (c : Dev nD) (i : grid1.Coords)
    (h1 : ¬ C1 i = 1#1)
    (h2 : ¬ k1_cond2 i = 1#1) (h3 : ¬ k1_cond3 i = 1#1) (h4 : k1_cond4 i = 1#1)
    (ox : Fin 3 → ℕ) (hox : ∀ a, ox a + S512x1x2048.size a ≤ S2048x33x2048.size a) (q q' : PosShare TreeShare)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole)
    (f3 : Bf (F := F) c M3) (f4 : Bf (F := F) c M4) (f5 : Bf (F := F) c M5) (f6 : Bf (F := F) c M6)
    (f7 : Bf (F := F) c (Memref.whole cc1_scratch0)) (f8 : Bf (F := F) c (Memref.whole cc1_scratch1))
    (fd : Bf (F := F) c (Memref.whole cc1_scratch2)) (fe : Bf (F := F) c (Memref.whole cc1_scratch2))
    (fx : Bf (F := F) c (Memref.whole main_arg0))
    (W : Waits sig Unit) (Q : _ → sProp 𝕄) :
    iprop(flightOf c (semM (k1_off1 i) (k1_off1_inb i)) (slotM (k1_off2 i) (k1_off2_inb i)) (xM ox hox) q fd fx
      ∗ pt c M3 f3 ∗ pt c M4 f4 ∗ pt c M5 f5 ∗ pt c M6 f6
      ∗ pt c (Memref.whole cc1_scratch0) f7 ∗ pt c (Memref.whole cc1_scratch1) f8
      ∗ owes (c : Thread nD τ) 0 W
      ∗ (iprop(ptOn c (slotM (k1_off2 i) (k1_off2_inb i)) fullShare fd
          ∗ ptOn c (xM ox hox) q fx
          ∗ semVal ((c : Thread nD τ), .dma (semM (k1_off1 i) (k1_off1_inb i))) 0
          ∗ pt c M3 f3 ∗ pt c M4 f4 ∗ pt c M5 f5
          ∗ pt c M6 (M6.view.writes (Elt F) f6 [⟨Rect.unit (s := S512x2048) ![0, 0] S512x2048.size inb_S512x2048_S512x2048_0_0,
              outV (BitVec.ofNat 32 (i 0).val) (ldX c i fd) (ld4 c M4 f4) (ld5 c M5 f5) (ld3 c M3 f3)
                  (View.readAt (Elt F) (Memref.whole cc1_scratch0).view (Rect.unit (s := S4x512x2048) (k1_off9 i) S1x512x2048.size (k1_off9_inb i h4)).toLoadRect f7)
                  (View.readAt (Elt F) (Memref.whole cc1_scratch1).view (Rect.unit (s := S4x512x1) (k1_off10 i) S1x512x1.size (k1_off10_inb i h4)).toLoadRect f8)⟩])
          ∗ pt c (Memref.whole cc1_scratch0) f7 ∗ pt c (Memref.whole cc1_scratch1) f8
          ∗ ∃ W, owes (c : Thread nD τ) 0 W) -∗ Q ⟨⟩))
    ⊢ wp frame (wpE (defs₀ (F := F)) Variants.none c none) Set.univ
        (cc1_dwatt_value_mlp_pool i (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3) Q := by
  iintro ⟨HF, H3, H4, H5, H6, H7, H8, HO, Hk⟩
  simp only [cc1_dwatt_value_mlp_pool_eq_skeleton]
  unfold cc1_dwatt_value_mlp_pool_skel
  simp only [k1_part1_eq_skeleton, k1_part2_eq_skeleton]
  unfold k1_part1_skel k1_part2_skel
  sl_exec
  sl_step
  iapply Hk
  isplitl [HF_dst]; · iexact HF_dst
  isplitl [HF_src]; · iexact HF_src
  isplitl [HF]; · iexact HF

  isplitl [H3]; · iexact H3
  isplitl [H4]; · iexact H4
  isplitl [H5]; · iexact H5
  isplitl [H6]; · iexact H6
  isplitl [H7]; · iexact H7
  isplitl [H8]; · iexact H8
  iexists _; iexact HO

end Cert.Proof.KI

end
-- ==== Proof.PointIndex.lean ====
module

public import proofs.«01_k».proof.Proof.PointRuns
public import proofs.«01_k».proof.Proof.Gen.KernelIdeal.Points

@[expose] public section

noncomputable section

/-! The second call's grid: point `t` is source `t / 4` and block of rows `t % 4`; its offsets and conditions follow. -/

namespace Cert.Proof.KI

open Cert.KernelIdeal Cert.KernelIdeal.Gen
open Idealize.ShloMosaic

/-- The source of a point. -/
theorem coords0 : ∀ t : Fin 132, (grid1.coords t 0).val = t.val / 4 := by decide +kernel
/-- The block of rows of a point. -/
theorem coords1 : ∀ t : Fin 132, (grid1.coords t 1).val = t.val % 4 := by decide +kernel
/-- The semaphore a point awaits is its parity's. -/
theorem off1_at : ∀ t : Fin 132, k1_off1 (grid1.coords t) = ![t.val % 2] := by decide +kernel
/-- The slot a point awaits is its parity's. -/
theorem off2_at : ∀ t : Fin 132, k1_off2 (grid1.coords t) = ![t.val % 2, 0, 0] := by decide +kernel
/-- The semaphore a point signals is the next point's. -/
theorem off3_at : ∀ t : Fin 132, k1_off3 (grid1.coords t) = ![(t.val + 1) % 2] := by decide +kernel
/-- The slot a point fills is the next point's. -/
theorem off4_at : ∀ t : Fin 132, k1_off4 (grid1.coords t) = ![(t.val + 1) % 2, 0, 0] := by decide +kernel
/-- The block of `x` a point fetches is the next point's. -/
theorem off5_at : ∀ t : Fin 132, k1_off5 (grid1.coords t) = ![((t.val + 1) % 4) * 512, (t.val + 1) / 4, 0] := by decide +kernel
/-- The slot a point reads is its parity's. -/
theorem off6_at : ∀ t : Fin 132, k1_off6 (grid1.coords t) = ![t.val % 2, 0, 0] := by decide +kernel
/-- The sum of values a point loads is its block's. -/
theorem off7_at : ∀ t : Fin 132, k1_off7 (grid1.coords t) = ![t.val % 4, 0, 0] := by decide +kernel
/-- The sum of values a point stores is its block's. -/
theorem off8_at : ∀ t : Fin 132, k1_off8 (grid1.coords t) = ![t.val % 4, 0, 0] := by decide +kernel
/-- The sum of means a point loads is its block's. -/
theorem off9_at : ∀ t : Fin 132, k1_off9 (grid1.coords t) = ![t.val % 4, 0, 0] := by decide +kernel
/-- The sum of means a point stores is its block's. -/
theorem off10_at : ∀ t : Fin 132, k1_off10 (grid1.coords t) = ![t.val % 4, 0, 0] := by decide +kernel
/-- Only the first point starts its own transfer. -/
theorem cond1_at : ∀ t : Fin 132, C1 (grid1.coords t) = 1#1 ↔ t.val = 0 := by decide +kernel
/-- Every point but the last starts the next transfer. -/
theorem cond2_at : ∀ t : Fin 132, k1_cond2 (grid1.coords t) = 1#1 ↔ t.val < 131 := by decide +kernel
/-- The points before the last source's store the sums. -/
theorem cond3_at : ∀ t : Fin 132, k1_cond3 (grid1.coords t) = 1#1 ↔ t.val < 128 := by decide +kernel
/-- The last source's points write the result. -/
theorem cond4_at : ∀ t : Fin 132, k1_cond4 (grid1.coords t) = 1#1 ↔ 128 ≤ t.val := by decide +kernel
/-- The result's window is idle before the last source. -/
theorem idle3_at : ∀ t : Fin cfg1.N, cfg1.idle 3 (grid1.coords t) = decide (t.val < 128) := (by decide +kernel : ∀ t : Fin 132, idle1 3 (grid1.coords t) = decide (t.val < 128))
/-- The result's window is written back at the last source's points. -/
theorem flush3_at : ∀ t : Fin cfg1.N, (cfg1.win 3).flush t = decide (128 ≤ t.val) :=
  (by decide +kernel : ∀ t : Fin grid1.N, win1_3.flush t = decide (128 ≤ t.val))
/-- The result's window is never fetched. -/
theorem fetch3_at : ∀ t : Fin cfg1.N, (cfg1.win 3).fetch t = false :=
  (fun _ => rfl : ∀ t : Fin grid1.N, win1_3.fetch t = false)

end Cert.Proof.KI

end
-- ==== Proof.Slots.lean ====
module

public import proofs.«01_k».proof.Proof.PointIndex
public import Idealize.ShloMosaic.Lib.WritesUnit
public import Idealize.ShloMosaic.Lib.ValueLayout
public import Idealize.ShloMosaic.Lib.Pipeline.Value
public import Idealize.ShloMosaic.Lib.LaneScatter.Own

@[expose] public section

noncomputable section

/-! The second call's own buffers: two slots filled in turn, and the sums of each block of rows. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The two slots of the block buffer, by the parity of a point -/

/-- A slot lies in the block buffer. -/
theorem bo_inb (n : ℕ) : ∀ a, (![n % 2, 0, 0] : Fin 3 → ℕ) a + S1x512x2048.size a ≤ S2x512x2048.size a := by
  intro a
  have := Nat.mod_lt n (show 2 > 0 by decide)
  fin_cases a
  · show n % 2 + 1 ≤ 2; omega
  · exact le_refl _
  · exact le_refl _
/-- A semaphore's index is in range. -/
theorem so_inb (n : ℕ) : ∀ a, (![n % 2] : Fin 1 → ℕ) a + S1.size a ≤ S2.size a := by
  intro a
  have := Nat.mod_lt n (show 2 > 0 by decide)
  fin_cases a
  show n % 2 + 1 ≤ 2; omega
/-- A point's block lies in `x`. -/
theorem xo_inb (n : ℕ) : ∀ a, (![(n % 4) * 512, (n / 4) % 33, 0] : Fin 3 → ℕ) a + S512x1x2048.size a ≤ S2048x33x2048.size a := by
  intro a
  have := Nat.mod_lt n (show 4 > 0 by decide)
  have := Nat.mod_lt (n / 4) (show 33 > 0 by decide)
  fin_cases a
  · show (n % 4) * 512 + 512 ≤ 2048; omega
  · show (n / 4) % 33 + 1 ≤ 33; omega
  · exact le_refl _

/-- The slot of point `n`. -/
abbrev slotN (n : ℕ) := slotM ![n % 2, 0, 0] (bo_inb n)
/-- The semaphore of point `n`. -/
abbrev semN (n : ℕ) := semM ![n % 2] (so_inb n)
/-- The block of `x` of point `n`. -/
abbrev xN (n : ℕ) := xM ![(n % 4) * 512, (n / 4) % 33, 0] (xo_inb n)
/-- The share of `x` the block of point `n` is read at: the two halves alternate. -/
def qn (n : ℕ) : PosShare TreeShare := if n % 2 = 0 then fullShare.left else fullShare.right

/-- Slots at equal offsets are held alike. -/
theorem slot_cast (c : Dev nD) {o o' : Fin 3 → ℕ} (e : o = o') (h h') (q : PosShare TreeShare) (f : Bf (F := F) c (Memref.whole cc1_scratch2)) :
    ptOn c (slotM o h) q f = ptOn c (slotM o' h') q f := by subst e; rfl
/-- Blocks of `x` at equal offsets are held alike. -/
theorem x_cast (c : Dev nD) {o o' : Fin 3 → ℕ} (e : o = o') (h h') (q : PosShare TreeShare) (f : Bf (F := F) c (Memref.whole main_arg0)) :
    ptOn c (xM o h) q f = ptOn c (xM o' h') q f := by subst e; rfl
/-- Semaphores at equal offsets are held alike. -/
theorem sem_cast (c : Dev nD) {o o' : Fin 1 → ℕ} (e : o = o') (h h') :
    (semVal ((c : Thread nD τ), .dma (semM o h)) 0 : sProp 𝕄) = semVal ((c : Thread nD τ), .dma (semM o' h')) 0 := by subst e; rfl
/-- What has landed depends on the offsets alone. -/
theorem landed_cast (c : Dev nD) {p p' : Fin 3 → ℕ} (e' : p = p') {x x' : Fin 3 → ℕ} (e'' : x = x') (k k' l l')
    (fe : Bf (F := F) c (Memref.whole cc1_scratch2)) (fx : Bf (F := F) c (Memref.whole main_arg0)) :
    landed c (slotM p k) (xM x l) fe fx = landed c (slotM p' k') (xM x' l') fe fx := by
  subst e'; subst e''; rfl
/-- A transfer in flight depends on the offsets alone. -/
theorem flight_landed_cast (c : Dev nD) {o o' : Fin 1 → ℕ} {p p' : Fin 3 → ℕ} (e : o = o') (e' : p = p') {x x' : Fin 3 → ℕ} (e'' : x = x')
    (h h' k k' l l') (q : PosShare TreeShare) (fe : Bf (F := F) c (Memref.whole cc1_scratch2)) (fx : Bf (F := F) c (Memref.whole main_arg0)) :
    flightOf c (semM o h) (slotM p k) (xM x l) q (landed c (slotM p k) (xM x l) fe fx) fx
      = flightOf c (semM o' h') (slotM p' k') (xM x' l') q (landed c (slotM p' k') (xM x' l') fe fx) fx := by
  subst e; subst e'; subst e''; rfl

/-- The elements of a slot. -/
abbrev slotSet (j : Fin 2) : Finset S2x512x2048.Idx := (Rect.unit (s := S2x512x2048) ![j.val % 2, 0, 0] S1x512x2048.size (bo_inb j.val)).set
/-- A slot's view covers the slot's elements. -/
theorem slotSet_eq (j : Fin 2) : (slotN j.val).view.set = slotSet j := by
  simp only [slotN, slotM, Memref.view_squeeze, View.set_reshape]; exact View.set_slice_whole _ _
/-- The two slots share no element. -/
theorem slots_disjoint (j j' : Fin 2) (hj : j ≠ j') : Disjoint (slotSet j) (slotSet j') :=
  Ring.lead_disjoint (s := S2x512x2048) (0 : Fin 3) 1 (fun j : Fin 2 => (![j.val % 2, 0, 0] : Fin 3 → Nat)) S1x512x2048.size (fun j => bo_inb j.val) (fun j => by show j.val % 2 = 1 * j.val; omega) rfl j j' hj
/-- The two slots are the whole buffer. -/
theorem slots_cover : Finset.univ.biUnion slotSet = Finset.univ :=
  Ring.lead_cover (s := S2x512x2048) (0 : Fin 3) 1 (fun j : Fin 2 => (![j.val % 2, 0, 0] : Fin 3 → Nat)) S1x512x2048.size (fun j => bo_inb j.val) (fun j => by show j.val % 2 = 1 * j.val; omega)
    (fun j a ha => by fin_cases a <;> first | exact absurd rfl ha | rfl) rfl (fun a ha => by fin_cases a <;> first | exact absurd rfl ha | rfl) rfl
/-- Holding a slot is holding its elements. -/
theorem slotP_eq (c : Dev nD) (j : Fin 2) (f) : ptOn (F := F) c (slotN j.val) fullShare f = ((Memref.whole cc1_scratch2).view.loc (c : Thread nD τ) ↦[slotSet j]{fullShare} f : sProp 𝕄) := by
  unfold ptOn; rw [slotSet_eq]
/-- The block buffer whole at something is its two slots at something each, and back. -/
theorem slots_in (c : Dev nD) :
    iprop(∃ f, (Memref.whole cc1_scratch2).view.loc (c : Thread nD τ) ↦{fullShare} f) ⊢ (iprop((∃ f, ptOn (F := F) c (slotN 0) fullShare f) ∗ ∃ f, ptOn (F := F) c (slotN 1) fullShare f) : sProp 𝕄) :=
  Ring.slots2_split (U := UU nD τ) (ℓ := (Memref.whole cc1_scratch2).view.loc (c : Thread nD τ)) (q := fullShare) slotSet slots_disjoint slots_cover
    (ptOn c (slotN 0) fullShare) (ptOn c (slotN 1) fullShare) (slotP_eq c 0) (slotP_eq c 1)
/-- The two slots held make the whole buffer held. -/
theorem slots_out (c : Dev nD) :
    (iprop((∃ f, ptOn (F := F) c (slotN 0) fullShare f) ∗ ∃ f, ptOn (F := F) c (slotN 1) fullShare f) : sProp 𝕄) ⊢ iprop(∃ f, (Memref.whole cc1_scratch2).view.loc (c : Thread nD τ) ↦{fullShare} f) :=
  Ring.slots2_join (U := UU nD τ) (ℓ := (Memref.whole cc1_scratch2).view.loc (c : Thread nD τ)) (q := fullShare) slotSet slots_disjoint slots_cover
    (ptOn c (slotN 0) fullShare) (ptOn c (slotN 1) fullShare) (slotP_eq c 0) (slotP_eq c 1)

/-! ## The two half shares of `x`, and the block of a point cut out of one -/

/-- `x` held is both its halves held. -/
theorem x_halves (c : Dev nD) (n : ℕ) (fx : Bf (F := F) c (Memref.whole main_arg0)) :
    (((Memref.whole main_arg0).view.loc (c : Thread nD τ)) ↦{fullShare} fx : sProp 𝕄)
      ⊣⊢ iprop((((Memref.whole main_arg0).view.loc (c : Thread nD τ)) ↦{qn n} fx) ∗ (((Memref.whole main_arg0).view.loc (c : Thread nD τ)) ↦{qn (n + 1)} fx)) := by
  unfold qn
  by_cases h : n % 2 = 0
  · rw [if_pos h, if_neg (by omega)]; exact pointsTo_share (PosShare.mem_left_op_right fullShare)
  · rw [if_neg h, if_pos (by omega)]
    have := pointsTo_share (Ix := Unit) (Name := ℕ) (U := UU nD τ) (Lvl := ℕ) (ℓ := (Memref.whole main_arg0).view.loc (c : Thread nD τ)) (I := Finset.univ) (f := fx) (PosShare.mem_left_op_right fullShare)
    exact ⟨this.1.trans sep_comm.1, sep_comm.1.trans this.2⟩

/-- What is left of a copy of `x` when the block of point `n` is cut out of it. -/
abbrev xRest (c : Dev nD) (n : ℕ) (q : PosShare TreeShare) (fx : Bf (F := F) c (Memref.whole main_arg0)) : sProp 𝕄 :=
  (Memref.whole main_arg0).view.loc (c : Thread nD τ) ↦[Finset.univ \ (xN n).view.set]{q} fx
/-- `x` held at a share. -/
abbrev xAll (c : Dev nD) (q : PosShare TreeShare) (fx : Bf (F := F) c (Memref.whole main_arg0)) : sProp 𝕄 :=
  (Memref.whole main_arg0).view.loc (c : Thread nD τ) ↦{q} fx
/-- A share of `x` is the share of a point's block and the share of the rest. -/
theorem x_cut (c : Dev nD) (n : ℕ) (q : PosShare TreeShare) (fx : Bf (F := F) c (Memref.whole main_arg0)) :
    xAll c q fx ⊣⊢ iprop(ptOn c (xN n) q fx ∗ xRest c n q fx) :=
  pointsTo_split_subset (Finset.subset_univ (xN n).view.set)

/-! ## Loads and stores of the buffers, read as rows -/

/-- The block of `x` point `n` works on. -/
def xB (c : Dev nD) (fx : Bf (F := F) c (Memref.whole main_arg0)) (n : ℕ) : Vec F S1x512x2048 .f32 :=
  fun j => (xN n).view.read (Elt F) fx (ValueIdx.ix2 (j 1) (j 2))

/-- A point loads from its slot the block that has landed there. -/
theorem ldX_landed (c : Dev nD) (i : grid1.Coords) (n : ℕ) (e : k1_off6 i = ![n % 2, 0, 0]) (fe : Bf (F := F) c (Memref.whole cc1_scratch2)) (fx : Bf (F := F) c (Memref.whole main_arg0)) :
    ldX c i (landed c (slotN n) (xN n) fe fx) = xB c fx n := by
  have key : ∀ (o : Fin 3 → ℕ) (h : ∀ a, o a + S1x512x2048.size a ≤ S2x512x2048.size a) (f : Bf (F := F) c (Memref.whole cc1_scratch2)) (j : S1x512x2048.Idx),
      View.readAt (Elt F) (Memref.whole cc1_scratch2).view (Rect.unit (s := S2x512x2048) o S1x512x2048.size h).toLoadRect f j
        = (slotM o h).view.read (Elt F) f (ValueIdx.ix2 (j 1) (j 2)) := by
    intro o h f j
    have := Memref.read_squeeze_slice (Val := Elt F) (Memref.whole cc1_scratch2) (Rect.unit (s := S2x512x2048) o S1x512x2048.size h) (fun _ => rfl) squeezes_S1x512x2048_S512x2048 shapeCasts_S1x512x2048_S512x2048 f
    refine Eq.symm ((congrFun this _).trans ?_)
    refine (ValueIdx.shapeCast_1ab_ab_apply _ _ (j 1) (j 2)).trans ?_
    refine congrArg _ ?_
    rw [ValueIdx.eq_ix3 j]
    congr 1
    exact Fin.ext (by have := (j 0).isLt; show 0 = (j 0).val; have h1 : (j 0).val < 1 := this; omega)
  have key2 : ∀ (o : Fin 3 → ℕ) (h : ∀ a, o a + S1x512x2048.size a ≤ S2x512x2048.size a), o = ![n % 2, 0, 0] →
      View.readAt (Elt F) (Memref.whole cc1_scratch2).view (Rect.unit (s := S2x512x2048) o S1x512x2048.size h).toLoadRect (landed c (slotN n) (xN n) fe fx) = xB c fx n := by
    rintro o h rfl
    funext j
    rw [key]
    show (slotN n).view.read (Elt F) ((slotN n).view.writes (Elt F) fe [⟨Rect.whole S512x2048, (xN n).view.read (Elt F) fx⟩]) _ = _
    rw [View.read_writes_whole]; rfl
  exact key2 _ _ e

/-- A block's sum of values lies in its buffer. -/
theorem row_inb (n : ℕ) : ∀ a, (![n % 4, 0, 0] : Fin 3 → ℕ) a + S1x512x2048.size a ≤ S4x512x2048.size a := by
  intro a
  have := Nat.mod_lt n (show 4 > 0 by decide)
  fin_cases a
  · show n % 4 + 1 ≤ 4; omega
  · exact le_refl _
  · exact le_refl _
/-- A block's sum of means lies in its buffer. -/
theorem col_inb (n : ℕ) : ∀ a, (![n % 4, 0, 0] : Fin 3 → ℕ) a + S1x512x1.size a ≤ S4x512x1.size a := by
  intro a
  have := Nat.mod_lt n (show 4 > 0 by decide)
  fin_cases a
  · show n % 4 + 1 ≤ 4; omega
  · exact le_refl _
  · exact le_refl _

/-- The accumulator's rows of batch tile `n % 4`. -/
def rowOf (c : Dev nD) (n : ℕ) (A : Bf (F := F) c (Memref.whole cc1_scratch0)) : Vec F S1x512x2048 .f32 :=
  View.readAt (Elt F) (Memref.whole cc1_scratch0).view (Rect.unit (s := S4x512x2048) ![n % 4, 0, 0] S1x512x2048.size (row_inb n)).toLoadRect A
/-- The shift accumulator's rows of batch tile `n % 4`. -/
def colOf (c : Dev nD) (n : ℕ) (A : Bf (F := F) c (Memref.whole cc1_scratch1)) : Vec F S1x512x1 .f32 :=
  View.readAt (Elt F) (Memref.whole cc1_scratch1).view (Rect.unit (s := S4x512x1) ![n % 4, 0, 0] S1x512x1.size (col_inb n)).toLoadRect A

/-- Loading a block's sum of values reads that block. -/
theorem row_load (c : Dev nD) (n : ℕ) {o : Fin 3 → ℕ} (e : o = ![n % 4, 0, 0]) (h) (A : Bf (F := F) c (Memref.whole cc1_scratch0)) :
    View.readAt (Elt F) (Memref.whole cc1_scratch0).view (Rect.unit (s := S4x512x2048) o S1x512x2048.size h).toLoadRect A = rowOf c n A := by subst e; rfl
/-- Loading a block's sum of means reads that block. -/
theorem col_load (c : Dev nD) (n : ℕ) {o : Fin 3 → ℕ} (e : o = ![n % 4, 0, 0]) (h) (A : Bf (F := F) c (Memref.whole cc1_scratch1)) :
    View.readAt (Elt F) (Memref.whole cc1_scratch1).view (Rect.unit (s := S4x512x1) o S1x512x1.size h).toLoadRect A = colOf c n A := by subst e; rfl
section Generic
variable {sg : RefSig} {κ : Kind} {sp : Space} {s : Shape} {e : EltTy} {Val : EltTy → Type}
/-- A rectangle loaded after one store of the same rectangle is what was stored. -/
theorem load_store_same (v : View sg κ sp s e) (f : v.ty.Contents Val) {o o' size : Fin s.rank → ℕ} (h : ∀ a, o a + size a ≤ s.size a) (h' : ∀ a, o' a + size a ≤ s.size a)
    (eo : o = o') (w : (Rect.unit o size h).shape.Idx → Val e) :
    v.readAt Val (Rect.unit o' size h').toLoadRect (v.writes Val f [⟨Rect.unit o size h, w⟩]) = w := by
  subst eo
  funext j
  exact View.read_writes_cons_emb v f (Rect.unit o size h) w [] j
/-- A rectangle loaded after one store of a rectangle apart from it along axis `a` is what it was. -/
theorem load_store_other (v : View sg κ sp s e) (f : v.ty.Contents Val) {o o' size size' : Fin s.rank → ℕ} (h : ∀ a, o a + size a ≤ s.size a) (h' : ∀ a, o' a + size' a ≤ s.size a)
    (a : Fin s.rank) (ha : o' a + size' a ≤ o a ∨ o a + size a ≤ o' a) (w : (Rect.unit o size h).shape.Idx → Val e) :
    v.readAt Val (Rect.unit o' size' h').toLoadRect (v.writes Val f [⟨Rect.unit o size h, w⟩]) = v.readAt Val (Rect.unit o' size' h').toLoadRect f := by
  funext j
  refine View.read_writes_cons_unit_of_not_mem v f h w [] _ rfl a ?_
  have h0 : (j a).val < size' a := (j a).isLt
  have h1 : ((Rect.unit o' size' h').toLoadRect.idx j a).val = o' a + 1 * (j a).val := rfl
  rw [h1]
  omega
end Generic

/-- After a store of a block's sum of values the block is what was stored. -/
theorem row_store_same (c : Dev nD) (n : ℕ) {o : Fin 3 → ℕ} (e : o = ![n % 4, 0, 0]) (h) (A : Bf (F := F) c (Memref.whole cc1_scratch0)) (w : Vec F S1x512x2048 .f32) :
    rowOf c n ((Memref.whole cc1_scratch0).view.writes (Elt F) A [⟨Rect.unit (s := S4x512x2048) o S1x512x2048.size h, w⟩]) = w :=
  load_store_same (s := S4x512x2048) (Memref.whole cc1_scratch0).view A h (row_inb n) e w
/-- A store of a block's sum of values leaves the other blocks. -/
theorem row_store_other (c : Dev nD) (n k : ℕ) (hk : k % 4 ≠ n % 4) {o : Fin 3 → ℕ} (e : o = ![n % 4, 0, 0]) (h) (A : Bf (F := F) c (Memref.whole cc1_scratch0)) (w : Vec F S1x512x2048 .f32) :
    rowOf c k ((Memref.whole cc1_scratch0).view.writes (Elt F) A [⟨Rect.unit (s := S4x512x2048) o S1x512x2048.size h, w⟩]) = rowOf c k A := by
  subst e
  refine load_store_other (s := S4x512x2048) (Memref.whole cc1_scratch0).view A h (row_inb k) (0 : Fin 3) ?_ w
  show k % 4 + 1 ≤ n % 4 ∨ n % 4 + 1 ≤ k % 4
  omega
/-- After a store of a block's sum of means the block is what was stored. -/
theorem col_store_same (c : Dev nD) (n : ℕ) {o : Fin 3 → ℕ} (e : o = ![n % 4, 0, 0]) (h) (A : Bf (F := F) c (Memref.whole cc1_scratch1)) (w : Vec F S1x512x1 .f32) :
    colOf c n ((Memref.whole cc1_scratch1).view.writes (Elt F) A [⟨Rect.unit (s := S4x512x1) o S1x512x1.size h, w⟩]) = w :=
  load_store_same (s := S4x512x1) (Memref.whole cc1_scratch1).view A h (col_inb n) e w
/-- A store of a block's sum of means leaves the other blocks. -/
theorem col_store_other (c : Dev nD) (n k : ℕ) (hk : k % 4 ≠ n % 4) {o : Fin 3 → ℕ} (e : o = ![n % 4, 0, 0]) (h) (A : Bf (F := F) c (Memref.whole cc1_scratch1)) (w : Vec F S1x512x1 .f32) :
    colOf c k ((Memref.whole cc1_scratch1).view.writes (Elt F) A [⟨Rect.unit (s := S4x512x1) o S1x512x1.size h, w⟩]) = colOf c k A := by
  subst e
  refine load_store_other (s := S4x512x1) (Memref.whole cc1_scratch1).view A h (col_inb k) (0 : Fin 3) ?_ w
  show k % 4 + 1 ≤ n % 4 ∨ n % 4 + 1 ≤ k % 4
  omega

end Cert.Proof.KI

end
-- ==== Proof.Invariant.lean ====
module

public import proofs.«01_k».proof.Proof.Slots
public import proofs.«01_k».proof.Proof.Gen.KernelIdeal.Launch

@[expose] public section

noncomputable section

/-! What the second call keeps from point to point: the transfer in flight and the sums so far. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

/-- Point `n` of the grid (modulo its 132 points). -/
def pnt (n : ℕ) : Fin cfg1.N := ⟨n % 132, (Nat.mod_lt n (by decide)).trans_eq N_1.symm⟩

/-- The blocks of the attention, of `W1` and of `W2` that point `t` reads. -/
def at1 (c : Dev nD) (t : Fin cfg1.N) : Vec F S512x33 .f32 := ((cfg1.win 0).blk t).view.read (Elt F) (V c (Pipeline.arrRef spec1 0))
/-- The first weights' block of point `t`. -/
def w1B (c : Dev nD) (t : Fin cfg1.N) : Vec F S1x2048x1024 .bf16 := ((cfg1.win 1).blk t).view.read (Elt F) (V c (Pipeline.arrRef spec1 1))
/-- The second weights' block of point `t`. -/
def w2B (c : Dev nD) (t : Fin cfg1.N) : Vec F S1x1024x2048 .bf16 := ((cfg1.win 2).blk t).view.read (Elt F) (V c (Pipeline.arrRef spec1 2))
/-- The rows of point `n`. -/
abbrev xs1 (c : Dev nD) (n : ℕ) : Vec F S1x512x2048 .f32 := xB c (V c main_arg0) n

/-- The accumulator's rows of batch tile `b` after `k` positions. -/
def accAt (c : Dev nD) (b : ℕ) : ℕ → Vec F S1x512x2048 .f32
  | 0 => fun _ => Scalar.ofBits .f32 0x00000000#32
  | k + 1 => accNext (BitVec.ofNat 32 k) (xs1 V c (4 * k + b)) (w1B V c (pnt (4 * k + b))) (w2B V c (pnt (4 * k + b))) (at1 V c (pnt (4 * k + b))) (accAt c b k)
/-- The shift accumulator's rows of batch tile `b` after `k` positions. -/
def saccAt (c : Dev nD) (b : ℕ) : ℕ → Vec F S1x512x1 .f32
  | 0 => fun _ => Scalar.ofBits .f32 0x00000000#32
  | k + 1 => saccNext (BitVec.ofNat 32 k) (xs1 V c (4 * k + b)) (w1B V c (pnt (4 * k + b))) (w2B V c (pnt (4 * k + b))) (at1 V c (pnt (4 * k + b))) (saccAt c b k)
/-- What point `n` writes to the output block. -/
def outAt (c : Dev nD) (n : ℕ) : Vec F S512x2048 .f32 :=
  outV (BitVec.ofNat 32 (n / 4)) (xs1 V c n) (w1B V c (pnt n)) (w2B V c (pnt n)) (at1 V c (pnt n)) (accAt V c (n % 4) 32) (saccAt V c (n % 4) 32)

/-- Before point `n` the two accumulators hold, for every batch tile already begun, the sums over the positions done. -/
def AccOK (c : Dev nD) (n : ℕ) (A : Bf (F := F) c (Memref.whole cc1_scratch0)) (B : Bf (F := F) c (Memref.whole cc1_scratch1)) : Prop :=
  ∀ b k, b < 4 → 0 < k → k ≤ 32 → 4 * k + b < n + 4 → (k < 32 → n ≤ 4 * k + b) → rowOf c b A = accAt V c b k ∧ colOf c b B = saccAt V c b k

/-- At the first source the sum of values does not depend on what the buffer held. -/
theorem accNext_first (xs : Vec F S1x512x2048 .f32) (w1 w2 a) (o o' : Vec F S1x512x2048 .f32) :
    accNext 0#32 xs w1 w2 a o = accNext 0#32 xs w1 w2 a o' := by
  unfold accNext k1_pay3; rfl
/-- At the first source the sum of means does not depend on what the buffer held. -/
theorem saccNext_first (xs : Vec F S1x512x2048 .f32) (w1 w2 a) (o o' : Vec F S1x512x1 .f32) :
    saccNext 0#32 xs w1 w2 a o = saccNext 0#32 xs w1 w2 a o' := by
  unfold saccNext k1_pay4; rfl

/-- A block's sum of values depends on the block alone. -/
theorem rowOf_mod (c : Dev nD) (n : ℕ) (A : Bf (F := F) c (Memref.whole cc1_scratch0)) : rowOf c (n % 4) A = rowOf c n A :=
  row_load c n (by rw [Nat.mod_mod]) _ A
/-- A block's sum of means depends on the block alone. -/
theorem colOf_mod (c : Dev nD) (n : ℕ) (A : Bf (F := F) c (Memref.whole cc1_scratch1)) : colOf c (n % 4) A = colOf c n A :=
  col_load c n (by rw [Nat.mod_mod]) _ A

/-- Before the first point nothing is claimed of the sums. -/
theorem acc_zero (c : Dev nD) (A B) : AccOK V c 0 A B := by
  intro b k _ h0 _ h1 _; omega

/-- A point's stores carry the sums one point on. -/
theorem acc_step (c : Dev nD) (n : ℕ) (hn : n < 128) (A B A' B') (h : AccOK V c n A B)
    (hA : rowOf c n A' = accNext (BitVec.ofNat 32 (n / 4)) (xs1 V c n) (w1B V c (pnt n)) (w2B V c (pnt n)) (at1 V c (pnt n)) (rowOf c n A))
    (hB : colOf c n B' = saccNext (BitVec.ofNat 32 (n / 4)) (xs1 V c n) (w1B V c (pnt n)) (w2B V c (pnt n)) (at1 V c (pnt n)) (colOf c n B))
    (hA' : ∀ k, k % 4 ≠ n % 4 → rowOf c k A' = rowOf c k A) (hB' : ∀ k, k % 4 ≠ n % 4 → colOf c k B' = colOf c k B) :
    AccOK V c (n + 1) A' B' := by
  intro b k hb h0 h32 h1 h2
  by_cases e : b = n % 4
  · have hk : k = n / 4 + 1 := by omega
    have hn4 : 4 * (n / 4) + n % 4 = n := by omega
    subst e; subst hk
    rw [rowOf_mod, colOf_mod, hA, hB]
    unfold accAt saccAt
    rw [hn4]
    by_cases hz : n / 4 = 0
    · rw [hz]
      exact ⟨accNext_first _ _ _ _ _ _, saccNext_first _ _ _ _ _ _⟩
    · have := h (n % 4) (n / 4) hb (by omega) (by omega) (by omega) (by omega)
      rw [rowOf_mod, colOf_mod] at this
      rw [this.1, this.2]; exact ⟨rfl, rfl⟩
  · rw [hA' b (by omega), hB' b (by omega)]
    exact h b k hb h0 h32 (by omega) (by omega)

/-- The last source's points leave the sums. -/
theorem acc_keep (c : Dev nD) (n : ℕ) (hn : 128 ≤ n) (A B) (h : AccOK V c n A B) : AccOK V c (n + 1) A B := by
  intro b k hb h0 h32 h1 h2
  exact h b k hb h0 h32 (by omega) (by omega)

/-- At the last source's points the sums are those of all earlier sources. -/
theorem acc_end (c : Dev nD) (n : ℕ) (hn : 128 ≤ n) (hn' : n < 132) (A B) (h : AccOK V c n A B) :
    rowOf c n A = accAt V c (n % 4) 32 ∧ colOf c n B = saccAt V c (n % 4) 32 := by
  have := h (n % 4) 32 (by omega) (by omega) (by omega) (by omega) (by omega)
  rwa [rowOf_mod, colOf_mod] at this

/-! ## The invariant -/

/-- The core's scoped buffers that neither region 1's windows nor its body uses. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- Between two points: the next block is on its way into its slot, the other slot is free. -/
def PhiMid (c : Dev nD) (n : ℕ) : sProp 𝕄 :=
  iprop(∃ (fe : Bf (F := F) c (slotN (n + 1))) (fd : Bf (F := F) c (slotN n)) (A : Bf (F := F) c (Memref.whole cc1_scratch0)) (B : Bf (F := F) c (Memref.whole cc1_scratch1)),
    ⌜AccOK V c n A B⌝
    ∗ flightOf c (semN n) (slotN n) (xN n) (qn n) (landed c (slotN n) (xN n) fd (V c main_arg0)) (V c main_arg0)
    ∗ ptOn c (slotN (n + 1)) fullShare fe
    ∗ semVal ((c : Thread nD τ), .dma (semN (n + 1))) 0
    ∗ xRest c n (qn n) (V c main_arg0)
    ∗ xAll c (qn (n + 1)) (V c main_arg0)
    ∗ pt c (Memref.whole cc1_scratch0) A ∗ pt c (Memref.whole cc1_scratch1) B ∗ restS c)

/-- Before the first point and after the last: nothing is on its way. -/
def PhiFree (c : Dev nD) : sProp 𝕄 :=
  iprop((∃ f, ptOn (F := F) c (slotN 0) fullShare f) ∗ (∃ f, ptOn (F := F) c (slotN 1) fullShare f)
    ∗ semVal ((c : Thread nD τ), .dma (semN 0)) 0 ∗ semVal ((c : Thread nD τ), .dma (semN 1)) 0
    ∗ xAll c fullShare (V c main_arg0)
    ∗ (∃ A, pt (F := F) c (Memref.whole cc1_scratch0) A) ∗ (∃ B, pt (F := F) c (Memref.whole cc1_scratch1) B) ∗ restS c)

/-- What the second call's own buffers hold between points. -/
def Phi (c : Dev nD) (n : ℕ) : sProp 𝕄 := if n = 0 ∨ n = 132 then PhiFree V c else PhiMid V c n

/-- The proof data of the second call. -/
def dat1 (c : Dev nD) : Dat τ (Elt F) Unit ℕ (UU nD τ) ℕ cfg1 c where
  A w := V c (Pipeline.arrRef spec1 w)
  after w t := match w with
    | ⟨0, _⟩ => at1 V c t
    | ⟨1, _⟩ => w1B V c t
    | ⟨2, _⟩ => w2B V c t
    | ⟨3, _⟩ => outAt V c t.val
  Φ t := Phi V c t.val
  q _ := fullShare
  owed _ := 0

end Cert.Proof.KI

end
-- ==== Proof.StepMid.lean ====
module

public import proofs.«01_k».proof.Proof.Invariant
public import Idealize.ShloMosaic.Lib.VecWindow

@[expose] public section

noncomputable section

/-! A point between carries the invariant on. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

/-- A whole buffer's view covers every element. -/
theorem whole_set {sp : Space} {S : Shape} {e : EltTy} (M : Memref sig .tc sp S e) (h : M.IsWhole) : M.view.set = Finset.univ := by
  obtain ⟨b, hsp, hsh, he, h⟩ := h
  subst hsp hsh he
  cases h
  exact View.set_whole _

/-- A whole memref owned at `x` is its buffer at the contents that read `x`. -/
theorem owns_pt (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  refine (LaneScatter.owns_raw (c : Thread nD τ) M h x).trans (Entails.of_eq ?_)
  unfold LaneScatter.raw pt
  rw [whole_set M h]
/-- A whole memref's buffer at contents that read `x` is the memref owned at `x`. -/
theorem pt_owns (c : Dev nD) {sp : Space} {S : Shape} {e : EltTy} (M : Memref sig .tc sp S e) (h : M.IsWhole) {f : Bf (F := F) c M} {x : S.Idx → Elt F e}
    (hx : View.read (Elt F) M.view f = x) : pt c M f ⊢ (owns (c : Thread nD τ) M fullShare x : sProp 𝕄) := by
  refine (Entails.of_eq ?_).trans (LaneScatter.raw_owns (c : Thread nD τ) M hx)
  unfold LaneScatter.raw pt
  rw [whole_set M h]

/-- Loading a whole attention block reads its contents. -/
theorem ld3_unread (c : Dev nD) (M : Memref sig .tc .vmem S512x33 .f32) (h : M.IsWhole) (x : Vec F S512x33 .f32) : ld3 c M (h.unread x) = x := by
  unfold ld3
  exact (View.readAt_full M.view _ _).trans (h.read_unread x)
/-- Loading a whole block of first weights reads its contents. -/
theorem ld4_unread (c : Dev nD) (M : Memref sig .tc .vmem S1x2048x1024 .bf16) (h : M.IsWhole) (x : Vec F S1x2048x1024 .bf16) : ld4 c M (h.unread x) = x := by
  unfold ld4
  exact (View.readAt_full M.view _ _).trans (h.read_unread x)
/-- Loading a whole block of second weights reads its contents. -/
theorem ld5_unread (c : Dev nD) (M : Memref sig .tc .vmem S1x1024x2048 .bf16) (h : M.IsWhole) (x : Vec F S1x1024x2048 .bf16) : ld5 c M (h.unread x) = x := by
  unfold ld5
  exact (View.readAt_full M.view _ _).trans (h.read_unread x)

/-- A point of the grid is the point of its number. -/
theorem pnt_val (t : Fin cfg1.N) : pnt t.val = t := by
  have : t.val < 132 := t.isLt.trans_eq N_1
  exact Fin.ext (Nat.mod_eq_of_lt this)

/-- The block fetched is the next point's, the last point aside. -/
theorem off5_at' (t : Fin cfg1.N) : k1_off5 (grid1.coords t) = ![((t.val + 1) % 4) * 512, ((t.val + 1) / 4) % 33, 0] ∨ t.val = 131 := by
  have ht : t.val < 132 := t.isLt.trans_eq N_1
  by_cases h : t.val = 131
  · exact .inr h
  · left
    rw [off5_at t, Nat.mod_eq_of_lt (a := (t.val + 1) / 4) (by omega)]

/-- Two points on, the slot is the same. -/
theorem slot_two (c : Dev nD) (n : ℕ) (f : Bf (F := F) c (Memref.whole cc1_scratch2)) :
    ptOn c (slotN (n + 1 + 1)) fullShare f = ptOn c (slotN n) fullShare f :=
  slot_cast c (by rw [show (n + 1 + 1) % 2 = n % 2 by omega]) _ _ _ _
/-- Two points on, the semaphore is the same. -/
theorem sem_two (c : Dev nD) (n : ℕ) :
    (semVal ((c : Thread nD τ), .dma (semN (n + 1 + 1))) 0 : sProp 𝕄) = semVal ((c : Thread nD τ), .dma (semN n)) 0 :=
  sem_cast c (by rw [show (n + 1 + 1) % 2 = n % 2 by omega]) _ _
/-- Two points on, the share is the same. -/
theorem qn_two (n : ℕ) : qn (n + 1 + 1) = qn n := by unfold qn; rw [show (n + 1 + 1) % 2 = n % 2 by omega]

set_option maxHeartbeats 2000000 in
/-- A point after the first and before the last row of tiles: the block lands, the next one is sent for, the two
    accumulators take the position's term. -/
theorem step_mid (c : Dev nD) (t : Fin cfg1.N) (h0 : t.val ≠ 0) (h : t.val < 128)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole) (X : Vec F S512x2048 .f32) :
    iprop(PhiMid V c t.val ∗ (∃ W, owes (c : Thread nD τ) (0 : CellTallies nD τ sig Unit) W)
      ∗ owns (c : Thread nD τ) M3 fullShare (at1 V c t) ∗ owns (c : Thread nD τ) M4 fullShare (w1B V c t)
      ∗ owns (c : Thread nD τ) M5 fullShare (w2B V c t) ∗ owns (c : Thread nD τ) M6 fullShare X)
    ⊢ wp frame (wpE (defs₀ (F := F)) Variants.none c none) Set.univ
        (cc1_dwatt_value_mlp_pool (grid1.coords t) (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3)
        fun _ => iprop(PhiMid V c (t.val + 1) ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare X) := by
  have h1 : ¬ C1 (grid1.coords t) = 1#1 := fun e => h0 ((cond1_at t).1 e)
  have h2 : k1_cond2 (grid1.coords t) = 1#1 := (cond2_at t).2 (by omega)
  have h3 : k1_cond3 (grid1.coords t) = 1#1 := (cond3_at t).2 h
  have h4 : ¬ k1_cond4 (grid1.coords t) = 1#1 := fun e => absurd ((cond4_at t).1 e) (by omega)
  have e5 : k1_off5 (grid1.coords t) = ![((t.val + 1) % 4) * 512, ((t.val + 1) / 4) % 33, 0] := (off5_at' t).resolve_right (by omega)
  have ec : (grid1.coords t 0).val = t.val / 4 := coords0 t
  iintro ⟨HP, ⟨%W, HO⟩, H3, H4, H5, H6⟩
  unfold PhiMid
  icases HP with ⟨%fe, %fd, %A, %B, %hAB, HF, Hs, Hm, Hxr, Hx, HA, HB, Hr⟩
  ihave Hx := (x_cut c (t.val + 1) (qn (t.val + 1)) (V c main_arg0)).1 $$ Hx
  icases Hx with ⟨Hxb, Hxr'⟩
  ihave H3 := (owns_pt c M3 hM3 _) $$ H3
  ihave H4 := (owns_pt c M4 hM4 _) $$ H4
  ihave H5 := (owns_pt c M5 hM5 _) $$ H5
  ihave H6 := (owns_pt c M6 hM6 _) $$ H6
  have key := point_mid c (grid1.coords t) h1 h2 h3 h4 _ (xo_inb t.val) (qn t.val) (qn (t.val + 1)) M3 hM3 M4 hM4 M5 hM5 M6 hM6
    (hM3.unread (at1 V c t)) (hM4.unread (w1B V c t)) (hM5.unread (w2B V c t)) (hM6.unread X) A B
    (landed c (slotN t.val) (xN t.val) fd (V c main_arg0)) fe (V c main_arg0) W
    (fun _ => iprop(PhiMid V c (t.val + 1) ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare X))
  rw [flight_cast c (off1_at t) (off2_at t) _ (so_inb t.val) _ (bo_inb t.val),
    slot_cast c (off4_at t) _ (bo_inb (t.val + 1)), slot_cast c (off2_at t) _ (bo_inb t.val),
    x_cast c e5 _ (xo_inb (t.val + 1)), sem_cast c (off3_at t) _ (so_inb (t.val + 1)), sem_cast c (off1_at t) _ (so_inb t.val),
    flight_landed_cast c (off3_at t) (off4_at t) e5 _ (so_inb (t.val + 1)) _ (bo_inb (t.val + 1)) _ (xo_inb (t.val + 1)),
    ldX_landed c (grid1.coords t) t.val (off6_at t), ld3_unread, ld4_unread, ld5_unread, row_load c t.val (off7_at t), col_load c t.val (off8_at t), ec] at key
  iapply key
  isplitl [HF]; · iexact HF
  isplitl [Hs]; · iexact Hs
  isplitl [Hxb]; · iexact Hxb
  isplitl [Hm]; · iexact Hm
  isplitl [H3]; · iexact H3
  isplitl [H4]; · iexact H4
  isplitl [H5]; · iexact H5
  isplitl [H6]; · iexact H6
  isplitl [HA]; · iexact HA
  isplitl [HB]; · iexact HB
  isplitl [HO]; · iexact HO
  iintro ⟨Hs, Hxb, Hm, HF, H3, H4, H5, H6, HA, HB, HO⟩
  isplitl [Hs Hxb Hm HF HA HB Hxr Hxr' Hr]
  · unfold PhiMid
    iexists (landed c (slotN t.val) (xN t.val) fd (V c main_arg0)), fe, _, _
    isplitr
    swap
    · isplitl [HF]; · iexact HF
      isplitl [Hs]; · iapply (Entails.of_eq (slot_two c t.val _).symm); iexact Hs
      isplitl [Hm]; · iapply (Entails.of_eq (sem_two c t.val).symm); iexact Hm
      isplitl [Hxr']; · iexact Hxr'
      isplitl [Hxb Hxr]
      · rw [qn_two]
        iapply (x_cut c t.val (qn t.val) (V c main_arg0)).2
        isplitl [Hxb]; · iexact Hxb
        iexact Hxr
      isplitl [HA]; · iexact HA
      isplitl [HB]; · iexact HB
      iexact Hr
    · ipureintro
      refine acc_step V c t.val h A B _ _ hAB ?_ ?_ ?_ ?_
      · rw [row_store_same c t.val (off7_at t), pnt_val]
      · rw [col_store_same c t.val (off8_at t), pnt_val]
      · intro k hk; exact row_store_other c t.val k hk (off7_at t) _ _ _
      · intro k hk; exact col_store_other c t.val k hk (off8_at t) _ _ _
  isplitl [HO]; · iexact HO
  isplitl [H3]; · iapply (pt_owns c M3 hM3 (hM3.read_unread _)); iexact H3
  isplitl [H4]; · iapply (pt_owns c M4 hM4 (hM4.read_unread _)); iexact H4
  isplitl [H5]; · iapply (pt_owns c M5 hM5 (hM5.read_unread _)); iexact H5
  iapply (pt_owns c M6 hM6 (hM6.read_unread _)); iexact H6

end Cert.Proof.KI

end
-- ==== Proof.StepFirst.lean ====
module

public import proofs.«01_k».proof.Proof.StepMid
public import Idealize.ShloMosaic.Lib.VecWindow

@[expose] public section

noncomputable section

/-! The first point sets the invariant up. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

set_option maxHeartbeats 2000000 in
/-- The first point: its block is sent for and lands, the next one is sent for, the two accumulators take the first term. -/
theorem step_first (c : Dev nD) (t : Fin cfg1.N) (h0 : t.val = 0)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole) (X : Vec F S512x2048 .f32) :
    iprop(PhiFree V c ∗ (∃ W, owes (c : Thread nD τ) (0 : CellTallies nD τ sig Unit) W)
      ∗ owns (c : Thread nD τ) M3 fullShare (at1 V c t) ∗ owns (c : Thread nD τ) M4 fullShare (w1B V c t)
      ∗ owns (c : Thread nD τ) M5 fullShare (w2B V c t) ∗ owns (c : Thread nD τ) M6 fullShare X)
    ⊢ wp frame (wpE (defs₀ (F := F)) Variants.none c none) Set.univ
        (cc1_dwatt_value_mlp_pool (grid1.coords t) (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3)
        fun _ => iprop(PhiMid V c (t.val + 1) ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare X) := by
  have h : t.val < 128 := by omega
  have h1 : C1 (grid1.coords t) = 1#1 := (cond1_at t).2 h0
  have h2 : k1_cond2 (grid1.coords t) = 1#1 := (cond2_at t).2 (by omega)
  have h3 : k1_cond3 (grid1.coords t) = 1#1 := (cond3_at t).2 h
  have h4 : ¬ k1_cond4 (grid1.coords t) = 1#1 := fun e => absurd ((cond4_at t).1 e) (by omega)
  have e5 : k1_off5 (grid1.coords t) = ![((t.val + 1) % 4) * 512, ((t.val + 1) / 4) % 33, 0] := (off5_at' t).resolve_right (by omega)
  have ec : (grid1.coords t 0).val = t.val / 4 := coords0 t
  have eS : (![0] : Fin 1 → ℕ) = ![t.val % 2] := by rw [h0]
  have eB : (![0, 0, 0] : Fin 3 → ℕ) = ![t.val % 2, 0, 0] := by rw [h0]
  have eX : (![0, 0, 0] : Fin 3 → ℕ) = ![(t.val % 4) * 512, (t.val / 4) % 33, 0] := by rw [h0]
  iintro ⟨HP, ⟨%W, HO⟩, H3, H4, H5, H6⟩
  unfold PhiFree
  icases HP with ⟨⟨%fg, Hs0⟩, ⟨%fe, Hs⟩, Hm0, Hm, Hx, ⟨%A, HA⟩, ⟨%B, HB⟩, Hr⟩
  have hAB : AccOK V c t.val A B := by rw [h0]; exact acc_zero V c A B
  ihave Hs0 := (Entails.of_eq (slot_cast c (o' := ![t.val % 2, 0, 0]) (by rw [h0]) _ (bo_inb t.val) fullShare fg)) $$ Hs0
  ihave Hs := (Entails.of_eq (slot_cast c (o' := ![(t.val + 1) % 2, 0, 0]) (by rw [h0]) _ (bo_inb (t.val + 1)) fullShare fe)) $$ Hs
  ihave Hm0 := (Entails.of_eq (sem_cast c (o' := ![t.val % 2]) (by rw [h0]) _ (so_inb t.val))) $$ Hm0
  ihave Hm := (Entails.of_eq (sem_cast c (o' := ![(t.val + 1) % 2]) (by rw [h0]) _ (so_inb (t.val + 1)))) $$ Hm
  ihave Hx := (x_halves c t.val (V c main_arg0)).1 $$ Hx
  icases Hx with ⟨Hx0, Hx⟩
  ihave Hx0 := (x_cut c t.val (qn t.val) (V c main_arg0)).1 $$ Hx0
  icases Hx0 with ⟨Hxb0, Hxr⟩
  ihave Hx := (x_cut c (t.val + 1) (qn (t.val + 1)) (V c main_arg0)).1 $$ Hx
  icases Hx with ⟨Hxb, Hxr'⟩
  ihave H3 := (owns_pt c M3 hM3 _) $$ H3
  ihave H4 := (owns_pt c M4 hM4 _) $$ H4
  ihave H5 := (owns_pt c M5 hM5 _) $$ H5
  ihave H6 := (owns_pt c M6 hM6 _) $$ H6
  have key := point_first c (grid1.coords t) h1 h2 h3 h4 (eS.trans (off1_at t).symm) (eB.trans (off2_at t).symm) (qn t.val) (qn (t.val + 1)) M3 hM3 M4 hM4 M5 hM5 M6 hM6
    (hM3.unread (at1 V c t)) (hM4.unread (w1B V c t)) (hM5.unread (w2B V c t)) (hM6.unread X) A B
    fg fe (V c main_arg0) W
    (fun _ => iprop(PhiMid V c (t.val + 1) ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare X))
  rw [landed_cast c eB eX _ (bo_inb t.val) _ (xo_inb t.val), slot_cast c eB _ (bo_inb t.val), x_cast c eX _ (xo_inb t.val), sem_cast c eS _ (so_inb t.val),
    slot_cast c (off4_at t) _ (bo_inb (t.val + 1)), slot_cast c (off2_at t) _ (bo_inb t.val),
    x_cast c e5 _ (xo_inb (t.val + 1)), sem_cast c (off3_at t) _ (so_inb (t.val + 1)), sem_cast c (off1_at t) _ (so_inb t.val),
    flight_landed_cast c (off3_at t) (off4_at t) e5 _ (so_inb (t.val + 1)) _ (bo_inb (t.val + 1)) _ (xo_inb (t.val + 1)),
    ldX_landed c (grid1.coords t) t.val (off6_at t), ld3_unread, ld4_unread, ld5_unread, row_load c t.val (off7_at t), col_load c t.val (off8_at t), ec] at key
  iapply key
  isplitl [Hs0]; · iexact Hs0
  isplitl [Hxb0]; · iexact Hxb0
  isplitl [Hm0]; · iexact Hm0
  isplitl [Hs]; · iexact Hs
  isplitl [Hxb]; · iexact Hxb
  isplitl [Hm]; · iexact Hm
  isplitl [H3]; · iexact H3
  isplitl [H4]; · iexact H4
  isplitl [H5]; · iexact H5
  isplitl [H6]; · iexact H6
  isplitl [HA]; · iexact HA
  isplitl [HB]; · iexact HB
  isplitl [HO]; · iexact HO
  iintro ⟨Hs, Hxb, Hm, HF, H3, H4, H5, H6, HA, HB, HO⟩
  isplitl [Hs Hxb Hm HF HA HB Hxr Hxr' Hr]
  · unfold PhiMid
    iexists (landed c (slotN t.val) (xN t.val) fg (V c main_arg0)), fe, _, _
    isplitr
    swap
    · isplitl [HF]; · iexact HF
      isplitl [Hs]; · iapply (Entails.of_eq (slot_two c t.val _).symm); iexact Hs
      isplitl [Hm]; · iapply (Entails.of_eq (sem_two c t.val).symm); iexact Hm
      isplitl [Hxr']; · iexact Hxr'
      isplitl [Hxb Hxr]
      · rw [qn_two]
        iapply (x_cut c t.val (qn t.val) (V c main_arg0)).2
        isplitl [Hxb]; · iexact Hxb
        iexact Hxr
      isplitl [HA]; · iexact HA
      isplitl [HB]; · iexact HB
      iexact Hr
    · ipureintro
      refine acc_step V c t.val h A B _ _ hAB ?_ ?_ ?_ ?_
      · rw [row_store_same c t.val (off7_at t), pnt_val]
      · rw [col_store_same c t.val (off8_at t), pnt_val]
      · intro k hk; exact row_store_other c t.val k hk (off7_at t) _ _ _
      · intro k hk; exact col_store_other c t.val k hk (off8_at t) _ _ _
  isplitl [HO]; · iexact HO
  isplitl [H3]; · iapply (pt_owns c M3 hM3 (hM3.read_unread _)); iexact H3
  isplitl [H4]; · iapply (pt_owns c M4 hM4 (hM4.read_unread _)); iexact H4
  isplitl [H5]; · iapply (pt_owns c M5 hM5 (hM5.read_unread _)); iexact H5
  iapply (pt_owns c M6 hM6 (hM6.read_unread _)); iexact H6

end Cert.Proof.KI

end
-- ==== Proof.StepLast.lean ====
module

public import proofs.«01_k».proof.Proof.StepMid
public import Idealize.ShloMosaic.Lib.VecWindow

@[expose] public section

noncomputable section

/-! The last source's points write the result and free the buffers. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

/-- The output block after the body's one store of all of it. -/
theorem out_owns (c : Dev nD) (M : Memref sig .tc .vmem S512x2048 .f32) (h : M.IsWhole) (f : Bf (F := F) c M) (w : Vec F S512x2048 .f32) :
    pt c M (M.view.writes (Elt F) f [⟨Rect.unit (s := S512x2048) ![0, 0] S512x2048.size inb_S512x2048_S512x2048_0_0, w⟩])
      ⊢ (owns (c : Thread nD τ) M fullShare w : sProp 𝕄) :=
  pt_owns c M h (View.read_writes_full M.view _ _ _ _)

set_option maxHeartbeats 2000000 in
/-- A point of the last row of tiles but the last: the block lands, the next one is sent for, the output block is written. -/
theorem step_row (c : Dev nD) (t : Fin cfg1.N) (h : 128 ≤ t.val) (h' : t.val < 131)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole) (X : Vec F S512x2048 .f32) :
    iprop(PhiMid V c t.val ∗ (∃ W, owes (c : Thread nD τ) (0 : CellTallies nD τ sig Unit) W)
      ∗ owns (c : Thread nD τ) M3 fullShare (at1 V c t) ∗ owns (c : Thread nD τ) M4 fullShare (w1B V c t)
      ∗ owns (c : Thread nD τ) M5 fullShare (w2B V c t) ∗ owns (c : Thread nD τ) M6 fullShare X)
    ⊢ wp frame (wpE (defs₀ (F := F)) Variants.none c none) Set.univ
        (cc1_dwatt_value_mlp_pool (grid1.coords t) (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3)
        fun _ => iprop(PhiMid V c (t.val + 1) ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare (outAt V c t.val)) := by
  have h1 : ¬ C1 (grid1.coords t) = 1#1 := fun e => absurd ((cond1_at t).1 e) (by omega)
  have h2 : k1_cond2 (grid1.coords t) = 1#1 := (cond2_at t).2 (by omega)
  have h3 : ¬ k1_cond3 (grid1.coords t) = 1#1 := fun e => absurd ((cond3_at t).1 e) (by omega)
  have h4 : k1_cond4 (grid1.coords t) = 1#1 := (cond4_at t).2 h
  have e5 : k1_off5 (grid1.coords t) = ![((t.val + 1) % 4) * 512, ((t.val + 1) / 4) % 33, 0] := (off5_at' t).resolve_right (by omega)
  have ec : (grid1.coords t 0).val = t.val / 4 := coords0 t
  iintro ⟨HP, ⟨%W, HO⟩, H3, H4, H5, H6⟩
  unfold PhiMid
  icases HP with ⟨%fe, %fd, %A, %B, %hAB, HF, Hs, Hm, Hxr, Hx, HA, HB, Hr⟩
  ihave Hx := (x_cut c (t.val + 1) (qn (t.val + 1)) (V c main_arg0)).1 $$ Hx
  icases Hx with ⟨Hxb, Hxr'⟩
  ihave H3 := (owns_pt c M3 hM3 _) $$ H3
  ihave H4 := (owns_pt c M4 hM4 _) $$ H4
  ihave H5 := (owns_pt c M5 hM5 _) $$ H5
  ihave H6 := (owns_pt c M6 hM6 _) $$ H6
  have key := point_last_row c (grid1.coords t) h1 h2 h3 h4 _ (xo_inb t.val) (qn t.val) (qn (t.val + 1)) M3 hM3 M4 hM4 M5 hM5 M6 hM6
    (hM3.unread (at1 V c t)) (hM4.unread (w1B V c t)) (hM5.unread (w2B V c t)) (hM6.unread X) A B
    (landed c (slotN t.val) (xN t.val) fd (V c main_arg0)) fe (V c main_arg0) W
    (fun _ => iprop(PhiMid V c (t.val + 1) ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare (outAt V c t.val)))
  rw [flight_cast c (off1_at t) (off2_at t) _ (so_inb t.val) _ (bo_inb t.val),
    slot_cast c (off4_at t) _ (bo_inb (t.val + 1)), slot_cast c (off2_at t) _ (bo_inb t.val),
    x_cast c e5 _ (xo_inb (t.val + 1)), sem_cast c (off3_at t) _ (so_inb (t.val + 1)), sem_cast c (off1_at t) _ (so_inb t.val),
    flight_landed_cast c (off3_at t) (off4_at t) e5 _ (so_inb (t.val + 1)) _ (bo_inb (t.val + 1)) _ (xo_inb (t.val + 1)),
    ldX_landed c (grid1.coords t) t.val (off6_at t), ld3_unread, ld4_unread, ld5_unread, row_load c t.val (off9_at t), col_load c t.val (off10_at t), ec] at key
  iapply key
  isplitl [HF]; · iexact HF
  isplitl [Hs]; · iexact Hs
  isplitl [Hxb]; · iexact Hxb
  isplitl [Hm]; · iexact Hm
  isplitl [H3]; · iexact H3
  isplitl [H4]; · iexact H4
  isplitl [H5]; · iexact H5
  isplitl [H6]; · iexact H6
  isplitl [HA]; · iexact HA
  isplitl [HB]; · iexact HB
  isplitl [HO]; · iexact HO
  iintro ⟨Hs, Hxb, Hm, HF, H3, H4, H5, H6, HA, HB, HO⟩
  isplitl [Hs Hxb Hm HF HA HB Hxr Hxr' Hr]
  · unfold PhiMid
    iexists (landed c (slotN t.val) (xN t.val) fd (V c main_arg0)), fe, _, _
    isplitr
    swap
    · isplitl [HF]; · iexact HF
      isplitl [Hs]; · iapply (Entails.of_eq (slot_two c t.val _).symm); iexact Hs
      isplitl [Hm]; · iapply (Entails.of_eq (sem_two c t.val).symm); iexact Hm
      isplitl [Hxr']; · iexact Hxr'
      isplitl [Hxb Hxr]
      · rw [qn_two]
        iapply (x_cut c t.val (qn t.val) (V c main_arg0)).2
        isplitl [Hxb]; · iexact Hxb
        iexact Hxr
      isplitl [HA]; · iexact HA
      isplitl [HB]; · iexact HB
      iexact Hr
    · ipureintro
      exact acc_keep V c t.val h A B hAB
  isplitl [HO]; · iexact HO
  isplitl [H3]; · iapply (pt_owns c M3 hM3 (hM3.read_unread _)); iexact H3
  isplitl [H4]; · iapply (pt_owns c M4 hM4 (hM4.read_unread _)); iexact H4
  isplitl [H5]; · iapply (pt_owns c M5 hM5 (hM5.read_unread _)); iexact H5
  obtain ⟨hA, hB⟩ := acc_end V c t.val h (by omega) A B hAB
  unfold outAt
  rw [← hA, ← hB, pnt_val]
  iapply (out_owns c M6 hM6 _ _)
  iexact H6

set_option maxHeartbeats 2000000 in
/-- The last point: the block lands, nothing is sent for, the output block is written. -/
theorem step_last (c : Dev nD) (t : Fin cfg1.N) (h131 : t.val = 131)
    (M3 : Memref sig .tc .vmem S512x33 .f32) (hM3 : M3.IsWhole)
    (M4 : Memref sig .tc .vmem S1x2048x1024 .bf16) (hM4 : M4.IsWhole)
    (M5 : Memref sig .tc .vmem S1x1024x2048 .bf16) (hM5 : M5.IsWhole)
    (M6 : Memref sig .tc .vmem S512x2048 .f32) (hM6 : M6.IsWhole) (X : Vec F S512x2048 .f32) :
    iprop(PhiMid V c t.val ∗ (∃ W, owes (c : Thread nD τ) (0 : CellTallies nD τ sig Unit) W)
      ∗ owns (c : Thread nD τ) M3 fullShare (at1 V c t) ∗ owns (c : Thread nD τ) M4 fullShare (w1B V c t)
      ∗ owns (c : Thread nD τ) M5 fullShare (w2B V c t) ∗ owns (c : Thread nD τ) M6 fullShare X)
    ⊢ wp frame (wpE (defs₀ (F := F)) Variants.none c none) Set.univ
        (cc1_dwatt_value_mlp_pool (grid1.coords t) (Memref.whole main_arg0) (Memref.isWhole_whole _) M3 hM3 M4 hM4 M5 hM5 M6 hM6 (Memref.whole cc1_scratch0) (Memref.isWhole_whole _) (Memref.whole cc1_scratch1) (Memref.isWhole_whole _) (Memref.whole cc1_scratch2) (Memref.isWhole_whole _) cc1_scratch3)
        fun _ => iprop(PhiFree V c ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare (outAt V c t.val)) := by
  have h1 : ¬ C1 (grid1.coords t) = 1#1 := fun e => absurd ((cond1_at t).1 e) (by omega)
  have h : 128 ≤ t.val := by omega
  have h2 : ¬ k1_cond2 (grid1.coords t) = 1#1 := fun e => absurd ((cond2_at t).1 e) (by omega)
  have h3 : ¬ k1_cond3 (grid1.coords t) = 1#1 := fun e => absurd ((cond3_at t).1 e) (by omega)
  have h4 : k1_cond4 (grid1.coords t) = 1#1 := (cond4_at t).2 h
  have ec : (grid1.coords t 0).val = t.val / 4 := coords0 t
  iintro ⟨HP, ⟨%W, HO⟩, H3, H4, H5, H6⟩
  unfold PhiMid
  icases HP with ⟨%fe, %fd, %A, %B, %hAB, HF, Hs, Hm, Hxr, Hx, HA, HB, Hr⟩
  ihave H3 := (owns_pt c M3 hM3 _) $$ H3
  ihave H4 := (owns_pt c M4 hM4 _) $$ H4
  ihave H5 := (owns_pt c M5 hM5 _) $$ H5
  ihave H6 := (owns_pt c M6 hM6 _) $$ H6
  have key := point_last_point c (grid1.coords t) h1 h2 h3 h4 _ (xo_inb t.val) (qn t.val) (qn (t.val + 1)) M3 hM3 M4 hM4 M5 hM5 M6 hM6
    (hM3.unread (at1 V c t)) (hM4.unread (w1B V c t)) (hM5.unread (w2B V c t)) (hM6.unread X) A B
    (landed c (slotN t.val) (xN t.val) fd (V c main_arg0)) fe (V c main_arg0) W
    (fun _ => iprop(PhiFree V c ∗ (∃ W, owes (c : Thread nD τ) (0 : CellTallies nD τ sig Unit) W)
          ∗ owns (c : Thread nD τ) M3 fullShare (at1 V c t) ∗ owns (c : Thread nD τ) M4 fullShare (w1B V c t)
          ∗ owns (c : Thread nD τ) M5 fullShare (w2B V c t) ∗ owns (c : Thread nD τ) M6 fullShare (outAt V c t.val)))
  rw [flight_cast c (off1_at t) (off2_at t) _ (so_inb t.val) _ (bo_inb t.val),
    slot_cast c (off2_at t) _ (bo_inb t.val),
    sem_cast c (off1_at t) _ (so_inb t.val),
    ldX_landed c (grid1.coords t) t.val (off6_at t), ld3_unread, ld4_unread, ld5_unread, row_load c t.val (off9_at t), col_load c t.val (off10_at t), ec] at key
  iapply key
  isplitl [HF]; · iexact HF
  isplitl [H3]; · iexact H3
  isplitl [H4]; · iexact H4
  isplitl [H5]; · iexact H5
  isplitl [H6]; · iexact H6
  isplitl [HA]; · iexact HA
  isplitl [HB]; · iexact HB
  isplitl [HO]; · iexact HO
  iintro ⟨Hs', Hxb, Hm', H3, H4, H5, H6, HA, HB, HO⟩
  isplitl [Hs Hs' Hxb Hm Hm' HA HB Hxr Hx Hr]
  · unfold PhiFree
    isplitl [Hs]; · iexists fe; iapply (Entails.of_eq (slot_cast c (o := ![(t.val + 1) % 2, 0, 0]) (o' := ![0 % 2, 0, 0]) (by rw [h131]) (bo_inb (t.val + 1)) (bo_inb 0) fullShare fe)); iexact Hs
    isplitl [Hs']; · iexists (landed c (slotN t.val) (xN t.val) fd (V c main_arg0)); iapply (Entails.of_eq (slot_cast c (o := ![t.val % 2, 0, 0]) (o' := ![1 % 2, 0, 0]) (by rw [h131]) (bo_inb t.val) (bo_inb 1) fullShare (landed c (slotN t.val) (xN t.val) fd (V c main_arg0)))); iexact Hs'
    isplitl [Hm]; · iapply (Entails.of_eq (sem_cast c (o := ![(t.val + 1) % 2]) (o' := ![0 % 2]) (by rw [h131]) (so_inb (t.val + 1)) (so_inb 0))); iexact Hm
    isplitl [Hm']; · iapply (Entails.of_eq (sem_cast c (o := ![t.val % 2]) (o' := ![1 % 2]) (by rw [h131]) (so_inb t.val) (so_inb 1))); iexact Hm'
    isplitl [Hxb Hxr Hx]
    · iapply (x_halves c t.val (V c main_arg0)).2
      isplitl [Hxb Hxr]
      · iapply (x_cut c t.val (qn t.val) (V c main_arg0)).2
        isplitl [Hxb]; · iexact Hxb
        iexact Hxr
      iexact Hx
    isplitl [HA]; · iexists A; iexact HA
    isplitl [HB]; · iexists B; iexact HB
    iexact Hr
  isplitl [HO]; · iexact HO
  isplitl [H3]; · iapply (pt_owns c M3 hM3 (hM3.read_unread _)); iexact H3
  isplitl [H4]; · iapply (pt_owns c M4 hM4 (hM4.read_unread _)); iexact H4
  isplitl [H5]; · iapply (pt_owns c M5 hM5 (hM5.read_unread _)); iexact H5
  obtain ⟨hA, hB⟩ := acc_end V c t.val h (by omega) A B hAB
  unfold outAt
  rw [← hA, ← hB, pnt_val]
  iapply (out_owns c M6 hM6 _ _)
  iexact H6

end Cert.Proof.KI

end
-- ==== Proof.SecondCall.lean ====
module

public import proofs.«01_k».proof.Proof.StepFirst
public import proofs.«01_k».proof.Proof.StepLast
public import proofs.«01_k».proof.Proof.Gen.KernelIdeal.Points
public import Idealize.ShloMosaic.Lib.Pipeline.FrameBody

@[expose] public section

noncomputable section

/-! The second call's body at every point. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

/-- The three input windows hold their blocks when the body runs. -/
theorem before1_0 (c : Dev nD) (t : Fin cfg1.N) (d) : (dat1 V c).before 0 t d = at1 V c t :=
  (Dat.before_in_eq_fetched (dat1 V c) 0 rfl (fun _ => rfl) (fun _ _ _ => rfl) (fun _ => rfl) t d).trans rfl
/-- The first weights' window holds its block. -/
theorem before1_1 (c : Dev nD) (t : Fin cfg1.N) (d) : (dat1 V c).before 1 t d = w1B V c t :=
  (Dat.before_in_eq_fetched (dat1 V c) 1 rfl (fun _ => rfl) (fun _ _ _ => rfl) (fun _ => rfl) t d).trans rfl
/-- The second weights' window holds its block. -/
theorem before1_2 (c : Dev nD) (t : Fin cfg1.N) (d) : (dat1 V c).before 2 t d = w2B V c t :=
  (Dat.before_in_eq_fetched (dat1 V c) 2 rfl (fun _ => rfl) (fun _ _ _ => rfl) (fun _ => rfl) t d).trans rfl

/-- Before the first point and after the last the call's own buffers are free. -/
theorem phi_first (c : Dev nD) (n : ℕ) (h : n = 0 ∨ n = 132) : Phi V c n = PhiFree V c := if_pos h
/-- Between points a transfer is in flight. -/
theorem phi_mid (c : Dev nD) (n : ℕ) (h : ¬ (n = 0 ∨ n = 132)) : Phi V c n = PhiMid V c n := if_neg h

/-- The statement of the second call's body at one point, its windows one by one. -/
theorem body1_at (c : Dev nD) (t : Fin cfg1.N) (P Q R : sProp 𝕄)
    (hP : Phi V c t.val = P) (hQ : Phi V c (t.val + 1) = Q)
    (hR : R ⊢ (match cfg1.idle 3 (grid1.coords t) with
                  | true =>
                    match (cfg1.win 3).flush t with
                    | false => iprop(∃ d, owns (c : Thread nD τ) (st1_3 t) fullShare ((dat1 V c).before 3 t d))
                    | true => owns (c : Thread nD τ) (st1_3 t) fullShare ((dat1 V c).after 3 t)
                  | false => owns (c : Thread nD τ) (st1_3 t) fullShare ((dat1 V c).after 3 t)))
    (hstep : ∀ d, iprop(P ∗ (∃ W, owes (c : Thread nD τ) (0 : CellTallies nD τ sig Unit) W)
      ∗ owns (c : Thread nD τ) (st1_0 t) fullShare (at1 V c t) ∗ owns (c : Thread nD τ) (st1_1 t) fullShare (w1B V c t)
      ∗ owns (c : Thread nD τ) (st1_2 t) fullShare (w2B V c t) ∗ owns (c : Thread nD τ) (st1_3 t) fullShare ((dat1 V c).before 3 t d))
    ⊢ wp frame (wpE (defs₀ (F := F)) Variants.none c none) Set.univ (bodyAt1 t)
        fun _ => iprop(Q ∗ (∃ W, owes (c : Thread nD τ) (0 : CellTallies nD τ sig Unit) W)
          ∗ owns (c : Thread nD τ) (st1_0 t) fullShare (at1 V c t) ∗ owns (c : Thread nD τ) (st1_1 t) fullShare (w1B V c t)
          ∗ owns (c : Thread nD τ) (st1_2 t) fullShare (w2B V c t) ∗ R)) :
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) Variants.none c none) Set.univ (bodyAt1 t) fun _ =>
          iprop((dat1 V c).Φ t.succ ∗ (dat1 V c).owesAt () t.succ
            ∗ bigSep Finset.univ fun w : Fin cfg1.W =>
                  match cfg1.idle w (cfg1.grid.coords t) with
                  | true =>
                    match (cfg1.win w).flush t with
                    | false => iprop(∃ d, owns (c : Thread nD τ) ((cfg1.win w).stage (cfg1.slots t w)) fullShare ((dat1 V c).before w t d))
                    | true => owns (c : Thread nD τ) ((cfg1.win w).stage (cfg1.slots t w)) fullShare ((dat1 V c).after w t)
                  | false => owns (c : Thread nD τ) ((cfg1.win w).stage (cfg1.slots t w)) fullShare ((dat1 V c).after w t)) := by
  rw [bigSep_W1, bigSep_W1]
  simp only [before1_0, before1_1, before1_2]
  rw [show (dat1 V c).Φ t.castSucc = P from hP, show (dat1 V c).Φ t.succ = Q from hQ]
  unfold Dat.owesAt Pipeline.owesWithin
  rw [show (dat1 V c).owed t.castSucc = 0 from rfl, show (dat1 V c).owed t.succ = 0 from rfl]
  iintro ⟨HP, ⟨%W, %hW, HO⟩, ⟨%d0, H0⟩, ⟨%d1, H1⟩, ⟨%d2, H2⟩, ⟨%d3, H3⟩⟩
  iapply (wp_wand_r frame _ _)
  isplitl
  · iapply (hstep d3)
    isplitl [HP]; · iexact HP
    isplitl [HO]; · iexists W; iexact HO
    isplitl [H0]; · iexact H0
    isplitl [H1]; · iexact H1
    isplitl [H2]; · iexact H2
    iexact H3
  iintro %a ⟨HQ, ⟨%W', HO⟩, H0, H1, H2, HR⟩
  isplitl [HQ]; · iexact HQ
  isplitl [HO]
  · iexists W'; isplitr; · ipureintro; exact fun _ _ => Or.inl trivial
    iexact HO
  isplitl [H0]; · iexact H0
  isplitl [H1]; · iexact H1
  isplitl [H2]; · iexact H2
  iapply hR
  iexact HR

/-- The second call's body, at every point. -/
theorem body1 (c : Dev nD) : BodyObligation (dat1 V c) (defs₀ (F := F)) Variants.none () Set.univ := fun t => by
  have hN : t.val < 132 := t.isLt.trans_eq N_1
  have hi := idle3_at t
  have hf := flush3_at t
  by_cases h : t.val < 128
  · rw [decide_eq_true h] at hi
    rw [decide_eq_false (by omega)] at hf
    have hR : iprop(∃ d, owns (c : Thread nD τ) (st1_3 t) fullShare ((dat1 V c).before 3 t d)) ⊢ (match cfg1.idle 3 (grid1.coords t) with
                  | true =>
                    match (cfg1.win 3).flush t with
                    | false => iprop(∃ d, owns (c : Thread nD τ) (st1_3 t) fullShare ((dat1 V c).before 3 t d))
                    | true => owns (c : Thread nD τ) (st1_3 t) fullShare ((dat1 V c).after 3 t)
                  | false => owns (c : Thread nD τ) (st1_3 t) fullShare ((dat1 V c).after 3 t) : sProp 𝕄) := by
      rw [hi, hf]
    have hex : ∀ d, owns (c : Thread nD τ) (st1_3 t) fullShare ((dat1 V c).before 3 t d) ⊢ (iprop(∃ d, owns (c : Thread nD τ) (st1_3 t) fullShare ((dat1 V c).before 3 t d)) : sProp 𝕄) := fun d => by
      iintro H; iexists d; iexact H
    by_cases h0 : t.val = 0
    · exact body1_at V c t _ _ _ (phi_first V c _ (Or.inl h0)) (phi_mid V c _ (by omega)) hR fun d =>
        (step_first V c t h0 _ _ _ _ _ _ _ _ _).trans (wp_mono frame _ _ fun _ => sep_mono .rfl (sep_mono .rfl (sep_mono .rfl (sep_mono .rfl (sep_mono .rfl (hex d))))))
    · exact body1_at V c t _ _ _ (phi_mid V c _ (by omega)) (phi_mid V c _ (by omega)) hR fun d =>
        (step_mid V c t h0 h _ _ _ _ _ _ _ _ _).trans (wp_mono frame _ _ fun _ => sep_mono .rfl (sep_mono .rfl (sep_mono .rfl (sep_mono .rfl (sep_mono .rfl (hex d))))))
  · rw [decide_eq_false h] at hi
    have hR : owns (c : Thread nD τ) (st1_3 t) fullShare (outAt V c t.val) ⊢ (match cfg1.idle 3 (grid1.coords t) with
                  | true =>
                    match (cfg1.win 3).flush t with
                    | false => iprop(∃ d, owns (c : Thread nD τ) (st1_3 t) fullShare ((dat1 V c).before 3 t d))
                    | true => owns (c : Thread nD τ) (st1_3 t) fullShare ((dat1 V c).after 3 t)
                  | false => owns (c : Thread nD τ) (st1_3 t) fullShare ((dat1 V c).after 3 t) : sProp 𝕄) := by
      rw [hi]; exact .rfl
    by_cases h1 : t.val = 131
    · exact body1_at V c t _ _ _ (phi_mid V c _ (by omega)) (phi_first V c _ (Or.inr (by omega))) hR fun d =>
        step_last V c t h1 _ _ _ _ _ _ _ _ _
    · exact body1_at V c t _ _ _ (phi_mid V c _ (by omega)) (phi_mid V c _ (by omega)) hR fun d =>
        step_row V c t (by omega) (by omega) _ _ _ _ _ _ _ _ _

end Cert.Proof.KI

end
-- ==== Proof.FirstCall.lean ====
module

public import proofs.«01_k».proof.Proof.StepMid
public import proofs.«01_k».proof.Proof.Gen.KernelIdeal.Points
public import Idealize.ShloMosaic.Lib.Pipeline.FrameBody
public import Idealize.ShloMosaic.Lib.VecWindow

@[expose] public section

noncomputable section

/-! The first call: the attention of a block of rows. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

/-- The attention of one tile of 256 rows, as the first call's body computes it from what it loads. -/
def attOf (x0 : Vec F S256x2048 .f32) (x1 : Vec F S2048x1024 .f32) (x2 x3 x4 : Vec F S1x1024 .f32) (x5 : Vec F S1024x2048 .f32)
    (x6 : Vec F S1x2048 .f32) (x7 : Vec F S33x24 .f32) (x8 : Vec F S24x2048 .f32) : Vec F S256x33 .f32 :=
  k0_pay1 (k0_pay2 x0) (k0_pay3 x0 x1 x2 x3 x4) x5 x6 x7 x8

/-- A load of all of a whole memref. -/
theorem ld_whole {S : Shape} {e : EltTy} (M : Memref sig .tc .vmem S e) (h : M.IsWhole) (x : S.Idx → Elt F e) {off : Fin S.rank → ℕ} (inb : ∀ a, off a + S.size a ≤ S.size a) :
    View.readAt (Elt F) M.view (Rect.unit off S.size inb).toLoadRect (h.unread x) = x :=
  (View.readAt_full M.view _ inb).trans (h.read_unread x)

/-- What the body's store leaves in the output block. -/
theorem att_stored (c : Dev nD) (M0 : Memref sig .tc .vmem S256x2048 .f32) (h0 : M0.IsWhole) (M1 : Memref sig .tc .vmem S2048x1024 .f32) (h1 : M1.IsWhole) (M2 : Memref sig .tc .vmem S1x1024 .f32) (h2 : M2.IsWhole) (M3 : Memref sig .tc .vmem S1x1024 .f32) (h3 : M3.IsWhole) (M4 : Memref sig .tc .vmem S1x1024 .f32) (h4 : M4.IsWhole) (M5 : Memref sig .tc .vmem S1024x2048 .f32) (h5 : M5.IsWhole) (M6 : Memref sig .tc .vmem S1x2048 .f32) (h6 : M6.IsWhole) (M7 : Memref sig .tc .vmem S33x24 .f32) (h7 : M7.IsWhole) (M8 : Memref sig .tc .vmem S24x2048 .f32) (h8 : M8.IsWhole) (M9 : Memref sig .tc .vmem S256x33 .f32)
    (x0 : Vec F S256x2048 .f32) (x1 : Vec F S2048x1024 .f32) (x2 : Vec F S1x1024 .f32) (x3 : Vec F S1x1024 .f32) (x4 : Vec F S1x1024 .f32) (x5 : Vec F S1024x2048 .f32) (x6 : Vec F S1x2048 .f32) (x7 : Vec F S33x24 .f32) (x8 : Vec F S24x2048 .f32) (f : Bf (F := F) c M9) :
    View.read (Elt F) M9.view (M9.view.writes (Elt F) f [⟨Rect.unit (s := S256x33) ![0, 0] S256x33.size inb_S256x33_S256x33_0_0,
      attOf (View.readAt (Elt F) M0.view (Rect.unit (s := S256x2048) ![0, 0] S256x2048.size inb_S256x2048_S256x2048_0_0).toLoadRect (h0.unread x0)) (View.readAt (Elt F) M1.view (Rect.unit (s := S2048x1024) ![0, 0] S2048x1024.size inb_S2048x1024_S2048x1024_0_0).toLoadRect (h1.unread x1)) (View.readAt (Elt F) M2.view (Rect.unit (s := S1x1024) ![0, 0] S1x1024.size inb_S1x1024_S1x1024_0_0).toLoadRect (h2.unread x2)) (View.readAt (Elt F) M3.view (Rect.unit (s := S1x1024) ![0, 0] S1x1024.size inb_S1x1024_S1x1024_0_0).toLoadRect (h3.unread x3)) (View.readAt (Elt F) M4.view (Rect.unit (s := S1x1024) ![0, 0] S1x1024.size inb_S1x1024_S1x1024_0_0).toLoadRect (h4.unread x4)) (View.readAt (Elt F) M5.view (Rect.unit (s := S1024x2048) ![0, 0] S1024x2048.size inb_S1024x2048_S1024x2048_0_0).toLoadRect (h5.unread x5)) (View.readAt (Elt F) M6.view (Rect.unit (s := S1x2048) ![0, 0] S1x2048.size inb_S1x2048_S1x2048_0_0).toLoadRect (h6.unread x6)) (View.readAt (Elt F) M7.view (Rect.unit (s := S33x24) ![0, 0] S33x24.size inb_S33x24_S33x24_0_0).toLoadRect (h7.unread x7)) (View.readAt (Elt F) M8.view (Rect.unit (s := S24x2048) ![0, 0] S24x2048.size inb_S24x2048_S24x2048_0_0).toLoadRect (h8.unread x8))⟩]) = attOf x0 x1 x2 x3 x4 x5 x6 x7 x8 := by
  rw [ld_whole M0 h0, ld_whole M1 h1, ld_whole M2 h2, ld_whole M3 h3, ld_whole M4 h4, ld_whole M5 h5, ld_whole M6 h6, ld_whole M7 h7, ld_whole M8 h8]
  exact View.read_writes_full M9.view _ _ _ _

/-- The first call's body on whole memrefs: the nine inputs stay, the output holds the tile's attention. -/
theorem att_body (c : Dev nD) (i : grid0.Coords) (M0 : Memref sig .tc .vmem S256x2048 .f32) (h0 : M0.IsWhole) (M1 : Memref sig .tc .vmem S2048x1024 .f32) (h1 : M1.IsWhole) (M2 : Memref sig .tc .vmem S1x1024 .f32) (h2 : M2.IsWhole) (M3 : Memref sig .tc .vmem S1x1024 .f32) (h3 : M3.IsWhole) (M4 : Memref sig .tc .vmem S1x1024 .f32) (h4 : M4.IsWhole) (M5 : Memref sig .tc .vmem S1024x2048 .f32) (h5 : M5.IsWhole) (M6 : Memref sig .tc .vmem S1x2048 .f32) (h6 : M6.IsWhole) (M7 : Memref sig .tc .vmem S33x24 .f32) (h7 : M7.IsWhole) (M8 : Memref sig .tc .vmem S24x2048 .f32) (h8 : M8.IsWhole) (M9 : Memref sig .tc .vmem S256x33 .f32) (h9 : M9.IsWhole)
    (x0 : Vec F S256x2048 .f32) (x1 : Vec F S2048x1024 .f32) (x2 : Vec F S1x1024 .f32) (x3 : Vec F S1x1024 .f32) (x4 : Vec F S1x1024 .f32) (x5 : Vec F S1024x2048 .f32) (x6 : Vec F S1x2048 .f32) (x7 : Vec F S33x24 .f32) (x8 : Vec F S24x2048 .f32) (x9 : Vec F S256x33 .f32) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9)
    ⊢ wp frame (wpE (defs₀ (F := F)) Variants.none c none) Set.univ (cc0_dwatt_query_attn i M0 h0 M1 h1 M2 h2 M3 h3 M4 h4 M5 h5 M6 h6 M7 h7 M8 h8 M9 h9)
      fun _ => (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare (attOf x0 x1 x2 x3 x4 x5 x6 x7 x8)) : sProp 𝕄) := by
  iintro ⟨H0, H1, H2, H3, H4, H5, H6, H7, H8, H9⟩
  ihave H0 := (owns_pt c M0 h0 x0) $$ H0
  ihave H1 := (owns_pt c M1 h1 x1) $$ H1
  ihave H2 := (owns_pt c M2 h2 x2) $$ H2
  ihave H3 := (owns_pt c M3 h3 x3) $$ H3
  ihave H4 := (owns_pt c M4 h4 x4) $$ H4
  ihave H5 := (owns_pt c M5 h5 x5) $$ H5
  ihave H6 := (owns_pt c M6 h6 x6) $$ H6
  ihave H7 := (owns_pt c M7 h7 x7) $$ H7
  ihave H8 := (owns_pt c M8 h8 x8) $$ H8
  ihave H9 := (owns_pt c M9 h9 x9) $$ H9
  simp only [cc0_dwatt_query_attn_eq_skeleton]
  unfold cc0_dwatt_query_attn_skel
  simp only [k0_part1_eq_skeleton]
  unfold k0_part1_skel
  sl_exec
  sl_step
  isplitl [H0]; · iapply (pt_owns c M0 h0 (h0.read_unread _)); iexact H0
  isplitl [H1]; · iapply (pt_owns c M1 h1 (h1.read_unread _)); iexact H1
  isplitl [H2]; · iapply (pt_owns c M2 h2 (h2.read_unread _)); iexact H2
  isplitl [H3]; · iapply (pt_owns c M3 h3 (h3.read_unread _)); iexact H3
  isplitl [H4]; · iapply (pt_owns c M4 h4 (h4.read_unread _)); iexact H4
  isplitl [H5]; · iapply (pt_owns c M5 h5 (h5.read_unread _)); iexact H5
  isplitl [H6]; · iapply (pt_owns c M6 h6 (h6.read_unread _)); iexact H6
  isplitl [H7]; · iapply (pt_owns c M7 h7 (h7.read_unread _)); iexact H7
  isplitl [H8]; · iapply (pt_owns c M8 h8 (h8.read_unread _)); iexact H8
  iapply (pt_owns c M9 h9 (att_stored c M0 h0 M1 h1 M2 h2 M3 h3 M4 h4 M5 h5 M6 h6 M7 h7 M8 h8 M9 x0 x1 x2 x3 x4 x5 x6 x7 x8 (h9.unread x9)))
  iexact H9

/-- The blocks that the windows of the first call read at point `t`. -/
def blk0_0 (c : Dev nD) (t : Fin cfg0.N) : Vec F S256x2048 .f32 := ((cfg0.win 0).blk t).view.read (Elt F) (V c (Pipeline.arrRef spec0 0))
/-- What window 1 of the first call reads. -/
def blk0_1 (c : Dev nD) (t : Fin cfg0.N) : Vec F S2048x1024 .f32 := ((cfg0.win 1).blk t).view.read (Elt F) (V c (Pipeline.arrRef spec0 1))
/-- What window 2 of the first call reads. -/
def blk0_2 (c : Dev nD) (t : Fin cfg0.N) : Vec F S1x1024 .f32 := ((cfg0.win 2).blk t).view.read (Elt F) (V c (Pipeline.arrRef spec0 2))
/-- What window 3 of the first call reads. -/
def blk0_3 (c : Dev nD) (t : Fin cfg0.N) : Vec F S1x1024 .f32 := ((cfg0.win 3).blk t).view.read (Elt F) (V c (Pipeline.arrRef spec0 3))
/-- What window 4 of the first call reads. -/
def blk0_4 (c : Dev nD) (t : Fin cfg0.N) : Vec F S1x1024 .f32 := ((cfg0.win 4).blk t).view.read (Elt F) (V c (Pipeline.arrRef spec0 4))
/-- What window 5 of the first call reads. -/
def blk0_5 (c : Dev nD) (t : Fin cfg0.N) : Vec F S1024x2048 .f32 := ((cfg0.win 5).blk t).view.read (Elt F) (V c (Pipeline.arrRef spec0 5))
/-- What window 6 of the first call reads. -/
def blk0_6 (c : Dev nD) (t : Fin cfg0.N) : Vec F S1x2048 .f32 := ((cfg0.win 6).blk t).view.read (Elt F) (V c (Pipeline.arrRef spec0 6))
/-- What window 7 of the first call reads. -/
def blk0_7 (c : Dev nD) (t : Fin cfg0.N) : Vec F S33x24 .f32 := ((cfg0.win 7).blk t).view.read (Elt F) (V c (Pipeline.arrRef spec0 7))
/-- What window 8 of the first call reads. -/
def blk0_8 (c : Dev nD) (t : Fin cfg0.N) : Vec F S24x2048 .f32 := ((cfg0.win 8).blk t).view.read (Elt F) (V c (Pipeline.arrRef spec0 8))
/-- The attention of the rows of point `t`. -/
def attAt (c : Dev nD) (t : Fin cfg0.N) : Vec F S256x33 .f32 :=
  attOf (blk0_0 V c t) (blk0_1 V c t) (blk0_2 V c t) (blk0_3 V c t) (blk0_4 V c t) (blk0_5 V c t) (blk0_6 V c t) (blk0_7 V c t) (blk0_8 V c t)

/-- The proof data of the first call. -/
def dat0 (c : Dev nD) : Dat τ (Elt F) Unit ℕ (UU nD τ) ℕ cfg0 c where
  A w := V c (Pipeline.arrRef spec0 w)
  after w t := match w with
    | ⟨0, _⟩ => blk0_0 V c t
    | ⟨1, _⟩ => blk0_1 V c t
    | ⟨2, _⟩ => blk0_2 V c t
    | ⟨3, _⟩ => blk0_3 V c t
    | ⟨4, _⟩ => blk0_4 V c t
    | ⟨5, _⟩ => blk0_5 V c t
    | ⟨6, _⟩ => blk0_6 V c t
    | ⟨7, _⟩ => blk0_7 V c t
    | ⟨8, _⟩ => blk0_8 V c t
    | ⟨9, _⟩ => attAt V c t
  Φ _ := Pipeline.scopedRest (Ix := Unit) (Name := ℕ) (U := UU nD τ) (Lvl := ℕ) (Val := Elt F) spec0 c
  q _ := fullShare
  owed _ := 0

/-- Window 0 of the first call holds its block. -/
theorem before0_0 (c : Dev nD) (t : Fin cfg0.N) (d) : (dat0 V c).before 0 t d = blk0_0 V c t :=
  (Dat.before_in_eq_fetched (dat0 V c) 0 rfl (fun _ => rfl) (fun _ _ _ => rfl) (fun _ => rfl) t d).trans rfl
/-- Window 1 of the first call holds its block. -/
theorem before0_1 (c : Dev nD) (t : Fin cfg0.N) (d) : (dat0 V c).before 1 t d = blk0_1 V c t :=
  (Dat.before_in_eq_fetched (dat0 V c) 1 rfl (fun _ => rfl) (fun _ _ _ => rfl) (fun _ => rfl) t d).trans rfl
/-- Window 2 of the first call holds its block. -/
theorem before0_2 (c : Dev nD) (t : Fin cfg0.N) (d) : (dat0 V c).before 2 t d = blk0_2 V c t :=
  (Dat.before_in_eq_fetched (dat0 V c) 2 rfl (fun _ => rfl) (fun _ _ _ => rfl) (fun _ => rfl) t d).trans rfl
/-- Window 3 of the first call holds its block. -/
theorem before0_3 (c : Dev nD) (t : Fin cfg0.N) (d) : (dat0 V c).before 3 t d = blk0_3 V c t :=
  (Dat.before_in_eq_fetched (dat0 V c) 3 rfl (fun _ => rfl) (fun _ _ _ => rfl) (fun _ => rfl) t d).trans rfl
/-- Window 4 of the first call holds its block. -/
theorem before0_4 (c : Dev nD) (t : Fin cfg0.N) (d) : (dat0 V c).before 4 t d = blk0_4 V c t :=
  (Dat.before_in_eq_fetched (dat0 V c) 4 rfl (fun _ => rfl) (fun _ _ _ => rfl) (fun _ => rfl) t d).trans rfl
/-- Window 5 of the first call holds its block. -/
theorem before0_5 (c : Dev nD) (t : Fin cfg0.N) (d) : (dat0 V c).before 5 t d = blk0_5 V c t :=
  (Dat.before_in_eq_fetched (dat0 V c) 5 rfl (fun _ => rfl) (fun _ _ _ => rfl) (fun _ => rfl) t d).trans rfl
/-- Window 6 of the first call holds its block. -/
theorem before0_6 (c : Dev nD) (t : Fin cfg0.N) (d) : (dat0 V c).before 6 t d = blk0_6 V c t :=
  (Dat.before_in_eq_fetched (dat0 V c) 6 rfl (fun _ => rfl) (fun _ _ _ => rfl) (fun _ => rfl) t d).trans rfl
/-- Window 7 of the first call holds its block. -/
theorem before0_7 (c : Dev nD) (t : Fin cfg0.N) (d) : (dat0 V c).before 7 t d = blk0_7 V c t :=
  (Dat.before_in_eq_fetched (dat0 V c) 7 rfl (fun _ => rfl) (fun _ _ _ => rfl) (fun _ => rfl) t d).trans rfl
/-- Window 8 of the first call holds its block. -/
theorem before0_8 (c : Dev nD) (t : Fin cfg0.N) (d) : (dat0 V c).before 8 t d = blk0_8 V c t :=
  (Dat.before_in_eq_fetched (dat0 V c) 8 rfl (fun _ => rfl) (fun _ _ _ => rfl) (fun _ => rfl) t d).trans rfl

/-- The first call's body, at every point. -/
theorem body0 (c : Dev nD) : BodyObligation (dat0 V c) (defs₀ (F := F)) Variants.none () Set.univ := fun t => by
  rw [bigSep_W0, bigSep_W0]
  simp only [before0_0, before0_1, before0_2, before0_3, before0_4, before0_5, before0_6, before0_7, before0_8]
  rw [show (dat0 V c).Φ t.succ = (dat0 V c).Φ t.castSucc from rfl, show (dat0 V c).owesAt () t.succ = (dat0 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame _ _)
  isplitl [H0 H1 H2 H3 H4 H5 H6 H7 H8 H9]
  · iapply (att_body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (blk0_0 V c t) (blk0_1 V c t) (blk0_2 V c t) (blk0_3 V c t) (blk0_4 V c t) (blk0_5 V c t) (blk0_6 V c t) (blk0_7 V c t) (blk0_8 V c t) ((dat0 V c).before 9 t d9))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %a ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.KI

end
-- ==== Proof.Calls.lean ====
module

public import proofs.«01_k».proof.Proof.SecondCall
public import proofs.«01_k».proof.Proof.FirstCall
public import proofs.«01_k».proof.Proof.Gen.KernelIdeal.Points
public import proofs.«01_k».proof.Proof.Gen.KernelIdeal.Regions
public import Idealize.ShloMosaic.Lib.Pipeline.RegionsLoop

@[expose] public section

noncomputable section

/-! The two calls as segments of the program, and the arrays between them. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- No counter has a waiting order. -/
abbrev L : GSem nD τ sig → Finset Unit := fun _ => ∅
/-- Every counter is on level zero. -/
abbrev lv : GSem nD τ sig → Unit → ℕ := fun _ _ => 0

variable (m : (ℓ : Loc nD τ sig) → Buf (Elt F) ℓ) (ρ : Dev nD → PrngReg)

/-- Core `c`'s buffers when the first call is entered: the host operations have run. -/
abbrev W1 (c : Dev nD) (b : Ref sig .tc) : Buf (Elt F) ((c : Thread nD τ).loc b) := V1 m c b
/-- The attention, as the first call leaves it. -/
def out8 (c : Dev nD) : Buf (Elt F) ((c : Thread nD τ).loc main_v8) := (dat0 (W1 m) c).arrAt 9 cfg0.N
/-- Core `c`'s buffers when the second call is entered. -/
def W2v (c : Dev nD) : Valuation τ sig (Elt F) := Function.update (V1 m c) main_v8 (out8 m c)
/-- The arrays after the first call. -/
abbrev W2 (c : Dev nD) (b : Ref sig .tc) : Buf (Elt F) ((c : Thread nD τ).loc b) := W2v m c b
/-- The result, as the second call leaves it. -/
def out9 (c : Dev nD) : Buf (Elt F) ((c : Thread nD τ).loc main_v9) := (dat1 (W2 m) c).arrAt 3 cfg1.N
/-- Core `c`'s buffers at the end. -/
def W3v (c : Dev nD) : Valuation τ sig (Elt F) := Function.update (W2v m c) main_v9 (out9 m c)
/-- The arrays after the second call. -/
abbrev W3 (c : Dev nD) (b : Ref sig .tc) : Buf (Elt F) ((c : Thread nD τ).loc b) := W3v m c b

/-- After the first call its output is what it computes. -/
theorem W2_out (c : Dev nD) : W2 m c main_v8 = out8 m c := by
  unfold W2 W2v; exact Function.update_self ..
/-- The first call changes nothing but its output. -/
theorem W2_ne (c : Dev nD) (r : Ref sig .tc) (h : r ≠ main_v8) : W2 m c r = W1 m c r := by
  unfold W2 W2v; exact Function.update_of_ne (StableHlo.devRef_ne_of_ne h) ..
/-- After the second call the result is what it computes. -/
theorem W3_out (c : Dev nD) : W3 m c main_v9 = out9 m c := by
  unfold W3 W3v; exact Function.update_self ..
/-- The second call changes nothing but the result. -/
theorem W3_ne (c : Dev nD) (r : Ref sig .tc) (h : r ≠ main_v9) : W3 m c r = W2 m c r := by
  unfold W3 W3v; exact Function.update_of_ne (StableHlo.devRef_ne_of_ne h) ..
/-- No operation and no call writes an argument. -/
theorem W3_arg (c : Dev nD) (r : Ref sig .tc) (h : r ∉ hostOps0_W) (h8 : r ≠ main_v8) (h9 : r ≠ main_v9) : W3 m c r = m ((c : Thread nD τ).loc r) :=
  (W3_ne m c r h9).trans ((W2_ne m c r h8).trans (V1_of m c r h))

/-- The two calls' proof data. -/
def pdats : (p : Fin 2) → (c : Dev nD) → Dat τ (Elt F) Unit ℕ (UU nD τ) ℕ (cfgs p) c
  | ⟨0, _⟩ => fun c => dat0 (W1 m) c
  | ⟨1, _⟩ => fun c => dat1 (W2 m) c

/-- The first call's windows read the arrays as the host left them. -/
theorem A0_eq (c : Dev nD) (w : Fin cfg0.W) : (pdats m 0 c).A w = W1 m c (Pipeline.arrRef spec0 w) := by
  dsimp only [pdats, dat0]
/-- The second call's windows read the arrays as the first call left them. -/
theorem A1_eq (c : Dev nD) (w : Fin cfg1.W) : (pdats m 1 c).A w = W2 m c (Pipeline.arrRef spec1 w) := by
  dsimp only [pdats, dat1]

/-- The core's dues. -/
abbrev RO (c : Dev nD) : sProp 𝕄 := iprop(∃ W, owes (c : Thread nD τ) (0 : CellTallies nD τ sig Unit) W)

/-- The first call keeps its own buffers as they are. -/
theorem phi0 (c : Dev nD) (t) : (pdats m 0 c).Φ t = Pipeline.scopedRest (Ix := Unit) (Name := ℕ) (U := UU nD τ) (Lvl := ℕ) (Val := Elt F) spec0 c := rfl

set_option backward.isDefEq.respectTransparency.types false in
/-- The first call as a segment: entered with every unscoped buffer at `W1`, left with them at `W2`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body0 (W1 m) c).loose
  hwaits := Pipeline.hwaits_of_owed_zero _ _ _ _ L lv 0 fun _ _ => rfl
  pre c := iprop(unscopedBufs c (W1 m c) ∗ RO c)
  post c := iprop(unscopedBufs c (W2 m c) ∗ RO c)
  X _ := BI.emp
  Y _ := BI.emp
  Z c := Pipeline.unscopedRest (Ix := Unit) (Name := ℕ) (U := UU nD τ) (Lvl := ℕ) spec0 c (W1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (W1 m c) (A0_eq m c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [phi0]
    iintro ⟨-, -, Hr⟩; iexact Hr
  hout c := by
    rw [Pipeline.ownSems0_none, phi0]
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ) launch0.win launch0.arr_whole c
      (pdats m) ((pdats m 0 c).share_full fun _ => rfl) (W1 m c) (W2 m c) ((pdats m 0 c).arrAt · cfg0.N)
      (fun w => by
        fin_cases w
        · exact ((pdats m 0 c).arrAt_in 0 rfl _).trans (W2_ne m c (Pipeline.arrRef spec0 0) (by decide)).symm
        · exact ((pdats m 0 c).arrAt_in 1 rfl _).trans (W2_ne m c (Pipeline.arrRef spec0 1) (by decide)).symm
        · exact ((pdats m 0 c).arrAt_in 2 rfl _).trans (W2_ne m c (Pipeline.arrRef spec0 2) (by decide)).symm
        · exact ((pdats m 0 c).arrAt_in 3 rfl _).trans (W2_ne m c (Pipeline.arrRef spec0 3) (by decide)).symm
        · exact ((pdats m 0 c).arrAt_in 4 rfl _).trans (W2_ne m c (Pipeline.arrRef spec0 4) (by decide)).symm
        · exact ((pdats m 0 c).arrAt_in 5 rfl _).trans (W2_ne m c (Pipeline.arrRef spec0 5) (by decide)).symm
        · exact ((pdats m 0 c).arrAt_in 6 rfl _).trans (W2_ne m c (Pipeline.arrRef spec0 6) (by decide)).symm
        · exact ((pdats m 0 c).arrAt_in 7 rfl _).trans (W2_ne m c (Pipeline.arrRef spec0 7) (by decide)).symm
        · exact ((pdats m 0 c).arrAt_in 8 rfl _).trans (W2_ne m c (Pipeline.arrRef spec0 8) (by decide)).symm
        · exact (W2_out m c).symm)
      (fun b hb => W2_ne m c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The second call's own semaphores. -/
abbrev osem1 : Fin 2 → SemLoc sig := fun | 0 => .dma (semN 0) | 1 => .dma (semN 1)
/-- The second call's semaphores are its own. -/
theorem ownSemFacts1 : Pipeline.OwnSemFacts spec1 osem1 := by decide
/-- The second call's semaphores are the two of the slots. -/
theorem ownSems1_eq (c : Dev nD) :
    (Pipeline.ownSems0 (Ix := Unit) (Name := ℕ) (U := UU nD τ) (Lvl := ℕ) (Val := Elt F) (τ := τ) osem1 c : sProp 𝕄)
      = iprop(semVal ((c : Thread nD τ), .dma (semN 0)) 0 ∗ semVal ((c : Thread nD τ), .dma (semN 1)) 0) :=
  Pipeline.ownSems0_eq_of_list c osem1 [0, 1] (by decide) (by decide)

/-- The unscoped buffers that the second call's windows do not name, but `x`. -/
abbrev others : List (Ref sig .tc) := [main_arg1, main_arg2, main_arg3, main_arg4, main_arg5, main_arg6, main_arg7, main_arg8, main_arg9, main_arg10, main_arg11, main_arg12, main_arg13, main_arg14, main_arg15, main_arg16, main_v0, main_v1, main_v4, main_v5, main_v6, main_v7]
/-- The arrays the second call does not touch, held. -/
abbrev othersAt (c : Dev nD) : sProp 𝕄 := bigSepL others fun b => ((c : Thread nD τ).loc b) ↦{fullShare} W2 m c b
/-- What the second call's windows leave is `x` and the other arrays. -/
theorem rest1_split (c : Dev nD) :
    (Pipeline.unscopedRest (Ix := Unit) (Name := ℕ) (U := UU nD τ) (Lvl := ℕ) spec1 c (W2 m c) : sProp 𝕄)
      = iprop((((c : Thread nD τ).loc main_arg0) ↦{fullShare} W2 m c main_arg0) ∗ othersAt m c) :=
  Pipeline.unscopedRest_eq_of_list spec1 c (W2 m c) (main_arg0 :: others) (by decide) (by decide)

/-- The second call's scoped buffers that its windows do not stage: the other call's, its accumulators, its block buffer. -/
theorem scoped1_in (c : Dev nD) :
    (Pipeline.scopedRest (Ix := Unit) (Name := ℕ) (U := UU nD τ) (Lvl := ℕ) (Val := Elt F) spec1 c : sProp 𝕄)
      ⊢ iprop(restS c ∗ (∃ A, pt (F := F) c (Memref.whole cc1_scratch0) A) ∗ (∃ B, pt (F := F) c (Memref.whole cc1_scratch1) B) ∗ ∃ f, (Memref.whole cc1_scratch2).view.loc (c : Thread nD τ) ↦{fullShare} f) := by
  rw [scopedRest1_eq]
  unfold restS
  iintro ⟨H0, H1, H2, H3, H4, H5, H6, H7, H8, H9, H10, H11, HA, HB, HC⟩
  isplitr [HA HB HC]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HA]; · iexact HA
  isplitl [HB]; · iexact HB
  iexact HC
/-- The second call's buffers held are given back. -/
theorem scoped1_out (c : Dev nD) :
    (iprop(restS c ∗ (∃ A, pt (F := F) c (Memref.whole cc1_scratch0) A) ∗ (∃ B, pt (F := F) c (Memref.whole cc1_scratch1) B) ∗ ∃ f, (Memref.whole cc1_scratch2).view.loc (c : Thread nD τ) ↦{fullShare} f) : sProp 𝕄)
      ⊢ Pipeline.scopedRest (Ix := Unit) (Name := ℕ) (U := UU nD τ) (Lvl := ℕ) (Val := Elt F) spec1 c := by
  rw [scopedRest1_eq]
  unfold restS
  iintro ⟨⟨H0, H1, H2, H3, H4, H5, H6, H7, H8, H9, H10, H11⟩, HA, HB, HC⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HB]; · iexact HB
  iexact HC

/-- The second call starts with its buffers free. -/
theorem phi1_first (c : Dev nD) : (pdats m 1 c).Φ 0 = PhiFree (W2 m) c := phi_first (W2 m) c 0 (Or.inl rfl)
/-- The second call ends with its buffers free. -/
theorem phi1_last (c : Dev nD) : (pdats m 1 c).Φ (Fin.last cfg1.N) = PhiFree (W2 m) c := phi_first (W2 m) c _ (Or.inr N_1)

set_option backward.isDefEq.respectTransparency.types false in
/-- The second call as a segment: entered with every unscoped buffer at `W2`, left with them at `W3`. -/
def reg1 : Pipeline.RegionSeg (pcfgs (F := F)) adm (pdats m) () defs₀ Variants.none L lv 1 where
  win := launch1.win.to₀
  block_pos := launch1.block_pos
  stage_whole := launch1.stage_whole
  K := Fin 2
  osem := osem1
  ho := ownSemFacts1
  hbody c := (body1 (W2 m) c).loose
  hwaits := Pipeline.hwaits_of_owed_zero _ _ _ _ L lv 1 fun _ _ => rfl
  pre c := iprop(unscopedBufs c (W2 m c) ∗ RO c)
  post c := iprop(unscopedBufs c (W3 m c) ∗ RO c)
  X c := iprop(xAll c fullShare (W2 m c main_arg0) ∗ semVal ((c : Thread nD τ), .dma (semN 0)) 0 ∗ semVal ((c : Thread nD τ), .dma (semN 1)) 0)
  Y c := xAll c fullShare (W2 m c main_arg0)
  Z c := othersAt m c
  hentry c := by
    rw [ownSems1_eq]
    have hsplit := (Pipeline.arrays_of_unscopedBufs (p := 1) (pcfgs (F := F)) adm (pdats m) launch1.win launch1.arr_whole c
      ((pdats m 1 c).share_full fun _ => rfl) (W2 m c) (A1_eq m c)).trans (sep_mono .rfl (Entails.of_eq (rest1_split m c)))
    iintro ⟨⟨Hub, HO⟩, Hos, -⟩
    ihave H := hsplit $$ Hub
    icases H with ⟨Ha, Hx, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hx Hos]
    · isplitl [Hx]; · iexact Hx
      iexact Hos
    iexact Hrest
  hin c := by
    rw [phi1_first]
    unfold PhiFree
    iintro ⟨⟨Hx, Hs0, Hs1⟩, -, Hr⟩
    ihave Hr := (scoped1_in (F := F) c) $$ Hr
    icases Hr with ⟨HR, HA, HB, HC⟩
    ihave HC := (slots_in (F := F) c) $$ HC
    icases HC with ⟨H0, H1⟩
    isplitl [H0]; · iexact H0
    isplitl [H1]; · iexact H1
    isplitl [Hs0]; · iexact Hs0
    isplitl [Hs1]; · iexact Hs1
    isplitl [Hx]; · iexact Hx
    isplitl [HA]; · iexact HA
    isplitl [HB]; · iexact HB
    iexact HR
  hout c := by
    rw [ownSems1_eq, show (pdats m 1 c).Φ (Fin.last _) = PhiFree (W2 m) c from phi1_last m c]
    unfold PhiFree
    iintro ⟨H0, H1, Hs0, Hs1, Hx, HA, HB, HR⟩
    isplitl [Hx]; · iexact Hx
    isplitl [Hs0 Hs1]
    · isplitl [Hs0]; · iexact Hs0
      iexact Hs1
    iapply (scoped1_out (F := F) c)
    isplitl [HR]; · iexact HR
    isplitl [HA]; · iexact HA
    isplitl [HB]; · iexact HB
    iapply (slots_out (F := F) c)
    isplitl [H0]; · iexact H0
    iexact H1
  hexit c := by
    have hjoin := (sep_mono .rfl (Entails.of_eq (rest1_split m c).symm)).trans (Pipeline.unscopedBufs_of_arrays (p := 1) (pcfgs (F := F)) adm (Ix := Unit) (Name := ℕ) (U := UU nD τ) (Lvl := ℕ) launch1.win launch1.arr_whole c
      (pdats m) ((pdats m 1 c).share_full fun _ => rfl) (W2 m c) (W3 m c) ((pdats m 1 c).arrAt · cfg1.N)
      (fun w => by
        fin_cases w
        · exact ((pdats m 1 c).arrAt_in 0 rfl _).trans (W3_ne m c (Pipeline.arrRef spec1 0) (by decide)).symm
        · exact ((pdats m 1 c).arrAt_in 1 rfl _).trans (W3_ne m c (Pipeline.arrRef spec1 1) (by decide)).symm
        · exact ((pdats m 1 c).arrAt_in 2 rfl _).trans (W3_ne m c (Pipeline.arrRef spec1 2) (by decide)).symm
        · exact (W3_out m c).symm)
      (fun b hb => W3_ne m c b fun h => hb (h ▸ Finset.mem_image.mpr ⟨3, Finset.mem_univ _, rfl⟩)))
    iintro ⟨Ha, HO, Hx, Hrest⟩
    imodintro
    isplitl [Ha Hx Hrest]
    · iapply hjoin
      isplitl [Ha]; · iexact Ha
      isplitl [Hx]; · iexact Hx
      iexact Hrest
    unfold Pipeline.Dat.owesAt Pipeline.owesWithin
    icases HO with ⟨%W, -, HO⟩; iexists W; iexact HO

end Cert.Proof.KI

end
-- ==== Proof.Run.lean ====
module

public import proofs.«01_k».proof.Proof.Calls
public import proofs.«01_k».proof.Proof.Gen.KernelIdeal.Points
public import proofs.«01_k».proof.Proof.Gen.KernelIdeal.Regions
public import Idealize.ShloMosaic.Lib.StableHlo.RunHlo

@[expose] public section

noncomputable section

/-! The run of the whole program: it ends, with the result as computed and the arguments as launched. -/

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- What the run leaves: the result as computed, the arguments as launched, every counter at zero. -/
def End (r : PUnit × MemSt nD τ sig (Elt F)) : Prop :=
  (∀ c : Dev nD, ∀ b : Ref sig .tc, Proc.devRef (τ := τ) .tc b ∈ Pipeline.ucRefs τ sig → r.2.mem ((c : Thread nD τ).loc b) = W3 m c b) ∧ r.2.sem = fun _ => 0

/-- The launch element. -/
def u₀ : UU nD τ := (initOf (Pipeline.cells cfgs cellOf_inj) (Pipeline.launchToks cfgs cellOf_inj), 1)
/-- The pipeline's tokens among the resources. -/
abbrev EP : Emb (UR sig nD τ) (MT nD τ sig Unit (Elt F) ℕ (UU nD τ) ℕ) := embL

/-- The buffers at a valuation are that valuation held. -/
theorem held_bufs (c : Dev nD) (W : Valuation τ sig (Elt F)) :
    (unscopedBufs c (fun b => W b) : sProp 𝕄) = StableHlo.held (c : Thread nD τ) (Pipeline.ucRefs τ sig) W :=
  Pipeline.unscopedBufs_held c W

set_option backward.isDefEq.respectTransparency.types false in
/-- From any memory with zero counters, every weakly fair execution of @main terminates, and every final state has every
    unscoped buffer at its computed contents `W3` and every counter at zero. -/
theorem run_main : θ_run defs (onTc (τ := τ) (main (F := F))) ⟨m, fun _ => 0, ρ⟩ (End m) := by
  refine Pipeline.θ_run_regions_kit_dev_sems (pcfgs (F := F)) adm (pdats m) () cellOf_inj EP defs₀ Variants.none L lv m ρ main
    (segs m Variants.none L lv (fun _ c => RO c) () (pdats m) (reg0 m) (reg1 m))
    (fun c Q => by
      rewrite [main_chain c, Pipeline.Seg.run_eq_chain,
        show (segs m Variants.none L lv (fun _ c => RO c) () (pdats m) (reg0 m) (reg1 m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RO c))
    (Tₙ := fun c => StableHlo.held (c : Thread nD τ) (Pipeline.ucRefs τ sig) (W3v m c))
    (hch := fun c => ⟨.rfl, sep_mono (Entails.of_eq (held_bufs c (V1 m c)).symm) .rfl, .rfl,
      sep_mono (Entails.of_eq (held_bufs c (W3v m c))) .rfl⟩)
    (hinit := ?_)
    (QY := fun c s => ∀ b : Ref sig .tc, Proc.devRef (τ := τ) .tc b ∈ Pipeline.ucRefs τ sig → s.mem ((c : Thread nD τ).loc b) = W3 m c b)
    (hfin := fun c s' => ?_)
    (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from held_bufs c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3v m c) s') $$ [Hh HSI]
    · isplitl [Hh] <;> iassumption
    icases Hr with ⟨%h, HSI⟩
    imodintro
    isplitr
    · ipureintro; exact fun b hb => h (Proc.devRef .tc b) hb
    · iexact HSI

/-- An unscoped buffer of the TensorCore is one that the end speaks of. -/
theorem mem_uc (b : Ref sig .tc) (h : ¬ (Proc.devRef (τ := τ) .tc b).isScoped = true) : Proc.devRef (τ := τ) .tc b ∈ Pipeline.ucRefs τ sig :=
  Finset.mem_filter.mpr ⟨StableHlo.devRef_mem_tcRefs b, h⟩
/-- At the end an argument is as launched. -/
theorem end_arg (r : PUnit × MemSt nD τ sig (Elt F)) (h : End m r) (c : Dev nD) (b : Ref sig .tc) (hb : ¬ (Proc.devRef (τ := τ) .tc b).isScoped = true)
    (h0 : b ∉ hostOps0_W) (h8 : b ≠ main_v8) (h9 : b ≠ main_v9) : r.2.mem ((c : Thread nD τ).loc b) = m ((c : Thread nD τ).loc b) :=
  (h.1 c b (mem_uc b hb)).trans (W3_arg m c b h0 h8 h9)
/-- At the end the result is what the second call computes. -/
theorem end_out (r : PUnit × MemSt nD τ sig (Elt F)) (h : End m r) (c : Dev nD) : r.2.mem ((c : Thread nD τ).loc main_v9) = out9 m c :=
  (h.1 c main_v9 (mem_uc main_v9 (by decide))).trans (W3_out m c)

/-- Every argument ends as launched. -/
def ArgsKept (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)
  ∧ r.2.mem ((c : Thread nD τ).loc main_arg7) = m ((c : Thread nD τ).loc main_arg7)
  ∧ r.2.mem ((c : Thread nD τ).loc main_arg8) = m ((c : Thread nD τ).loc main_arg8)
  ∧ r.2.mem ((c : Thread nD τ).loc main_arg9) = m ((c : Thread nD τ).loc main_arg9)
  ∧ r.2.mem ((c : Thread nD τ).loc main_arg10) = m ((c : Thread nD τ).loc main_arg10)
  ∧ r.2.mem ((c : Thread nD τ).loc main_arg11) = m ((c : Thread nD τ).loc main_arg11)
  ∧ r.2.mem ((c : Thread nD τ).loc main_arg12) = m ((c : Thread nD τ).loc main_arg12)
  ∧ r.2.mem ((c : Thread nD τ).loc main_arg13) = m ((c : Thread nD τ).loc main_arg13)
  ∧ r.2.mem ((c : Thread nD τ).loc main_arg14) = m ((c : Thread nD τ).loc main_arg14)
  ∧ r.2.mem ((c : Thread nD τ).loc main_arg15) = m ((c : Thread nD τ).loc main_arg15)
  ∧ r.2.mem ((c : Thread nD τ).loc main_arg16) = m ((c : Thread nD τ).loc main_arg16)
/-- At the end every argument is as launched. -/
theorem end_args (r : PUnit × MemSt nD τ sig (Elt F)) (h : End m r) : ArgsKept m r := fun c =>
  ⟨end_arg m r h c main_arg0 (by decide) (by decide) (by decide) (by decide), end_arg m r h c main_arg1 (by decide) (by decide) (by decide) (by decide), end_arg m r h c main_arg2 (by decide) (by decide) (by decide) (by decide), end_arg m r h c main_arg3 (by decide) (by decide) (by decide) (by decide), end_arg m r h c main_arg4 (by decide) (by decide) (by decide) (by decide), end_arg m r h c main_arg5 (by decide) (by decide) (by decide) (by decide), end_arg m r h c main_arg6 (by decide) (by decide) (by decide) (by decide), end_arg m r h c main_arg7 (by decide) (by decide) (by decide) (by decide), end_arg m r h c main_arg8 (by decide) (by decide) (by decide) (by decide), end_arg m r h c main_arg9 (by decide) (by decide) (by decide) (by decide), end_arg m r h c main_arg10 (by decide) (by decide) (by decide) (by decide), end_arg m r h c main_arg11 (by decide) (by decide) (by decide) (by decide), end_arg m r h c main_arg12 (by decide) (by decide) (by decide) (by decide), end_arg m r h c main_arg13 (by decide) (by decide) (by decide) (by decide), end_arg m r h c main_arg14 (by decide) (by decide) (by decide) (by decide), end_arg m r h c main_arg15 (by decide) (by decide) (by decide) (by decide), end_arg m r h c main_arg16 (by decide) (by decide) (by decide) (by decide)⟩

/-- The frame: every execution terminates with the arguments as launched and every counter at zero. -/
theorem frame_run : θ_run defs (onTc (τ := τ) (main (F := F))) ⟨m, fun _ => 0, ρ⟩ (fun r => ArgsKept m r ∧ r.2.sem = fun _ => 0) :=
  θ_run_mono (run_main m ρ) fun r h => ⟨end_args m r h, h.2⟩

end Cert.Proof.KI

end
-- ==== Proof.Same.lean ====
module

public import proofs.«01_k».proof.Defs
public import proofs.«01_k».proof.Proof.Run
public import proofs.«01_k».proof.Proof.Gen.Kernel
public import Idealize.ShloMosaic.Adequacy

@[expose] public section

noncomputable section

/-! The kernel and the idealized kernel are one program, so what is proved of the one's run holds of the other's. -/

namespace Cert.Proof.Same

open Idealize.ShloMosaic Idealize.ShloMosaic.TcCoe Idealize.SL Idealize.SL.Sem

variable {F : FTy → Type} [FloatOps F]

/-- The first call's body is the same. -/
theorem body0_eq : Cert.Kernel.cc0_dwatt_query_attn (F := F) = Cert.KernelIdeal.cc0_dwatt_query_attn (F := F) := rfl
/-- The second call's body is the same. -/
theorem body1_eq : Cert.Kernel.cc1_dwatt_value_mlp_pool (F := F) = Cert.KernelIdeal.cc1_dwatt_value_mlp_pool (F := F) := rfl

set_option smartUnfolding false in
/-- The bodies' table is the same. -/
theorem defs₀_eq : Cert.Kernel.defs₀ (F := F) = Cert.KernelIdeal.defs₀ (F := F) := by
  unfold Cert.Kernel.defs₀ Cert.KernelIdeal.defs₀
  rw [← body0_eq, ← body1_eq]
  with_unfolding_all rfl

/-- The calls' table is the same. -/
theorem defs_eq : Cert.Kernel.defs (F := F) = Cert.KernelIdeal.defs (F := F) := by
  show Pipeline.defs Cert.Kernel.pcfgs (Cert.Kernel.defs₀ (F := F)) = Pipeline.defs Cert.KernelIdeal.pcfgs Cert.KernelIdeal.defs₀
  rw [defs₀_eq]
  rfl

/-- The program is the same. -/
theorem main_eq : Cert.Kernel.main (F := F) = Cert.KernelIdeal.main (F := F) := rfl

/-- The kernel, from any memory: it ends, keeps its arguments and leaves every counter at zero. -/
theorem kernel_frame : Cert.quiescent_Kernel := by
  intro m g _
  rw [defs_eq, main_eq]
  exact Cert.Proof.KI.frame_run (F := Bits) m g

end Cert.Proof.Same

end
-- ==== Proof.Rows.lean ====
module

public import Idealize.ShloMosaic.PureOps
public import Idealize.ShloMosaic.PureOps.Ideal.Laws
public import Idealize.ShloMosaic.Lib.Pointwise

@[expose] public section

noncomputable section

/-! One row's arithmetic over the extended reals, without a program: what a row's attention and a row's value
are, in the reference's writing and in the kernel's, and that the two agree on finite rows. -/

namespace Cert.Proof.Row

open Idealize.ShloMosaic
open scoped BigOperators

/-- One half. -/
def half : EReal := Ideal.ofBits .f32 0x3F000000#32
/-- The gelu's factor inside the error function. -/
def rt : EReal := Ideal.ofBits .f32 0x3F3504F3#32
/-- The normalisations' guard. -/
def eps : EReal := Ideal.ofBits .f32 0x3727C5AC#32
/-- The hidden row's length. -/
def lenH : EReal := Ideal.ofBits .f32 0x44800000#32
/-- The value row's length. -/
def lenD : EReal := Ideal.ofBits .f32 0x45000000#32
/-- One over the hidden row's length. -/
def invH : EReal := Ideal.ofBits .f32 0x3A800000#32
/-- One over the value row's length. -/
def invD : EReal := Ideal.ofBits .f32 0x3A000000#32

/-- The hidden row's length is 1024. -/
theorem lenH_eq : lenH = ((1024 : ℝ) : EReal) := by simp [lenH, Ideal.ofBits, Ideal.ieee, -EReal.coe_mul]; norm_num
/-- The value row's length is 2048. -/
theorem lenD_eq : lenD = ((2048 : ℝ) : EReal) := by simp [lenD, Ideal.ofBits, Ideal.ieee, -EReal.coe_mul]; norm_num
/-- One over the hidden row's length is exact. -/
theorem invH_eq : invH = ((1 / 1024 : ℝ) : EReal) := by simp [invH, Ideal.ofBits, Ideal.ieee, -EReal.coe_mul]; norm_num
/-- One over the value row's length is exact. -/
theorem invD_eq : invD = ((1 / 2048 : ℝ) : EReal) := by simp [invD, Ideal.ofBits, Ideal.ieee, -EReal.coe_mul]; norm_num
/-- The guard is a positive real number. -/
theorem eps_eq : ∃ e : ℝ, 0 < e ∧ eps = (e : EReal) := by
  refine ⟨_, ?_, by simp only [eps, Ideal.ofBits, Ideal.ieee]; simp [-EReal.coe_mul]; rfl⟩; norm_num
/-- One half is a real number. -/
theorem half_eq : ∃ e : ℝ, half = (e : EReal) := by
  refine ⟨_, by simp only [half, Ideal.ofBits, Ideal.ieee]; simp [-EReal.coe_mul]; rfl⟩
/-- The gelu's factor is a real number. -/
theorem rt_eq : ∃ e : ℝ, rt = (e : EReal) := by
  refine ⟨_, by simp only [rt, Ideal.ofBits, Ideal.ieee]; simp [-EReal.coe_mul]; rfl⟩
/-- The word of minus infinity. -/
theorem bot_eq : Ideal.ofBits .f32 0xFF800000#32 = (⊥ : EReal) := by simp [Ideal.ofBits, Ideal.ieee]
/-- The word of infinity. -/
theorem top_eq : Ideal.ofBits .f32 0x7F800000#32 = (⊤ : EReal) := by simp [Ideal.ofBits, Ideal.ieee]

/-- The exact gelu. -/
def gelu (y : EReal) : EReal := half * y * (1 + Ideal.erf (y * rt))
/-- The exact gelu by the complementary error function. -/
theorem gelu_erfc (y : EReal) : gelu y = half * y * Ideal.erfc (-y * rt) := by
  unfold gelu; rw [EReal.neg_mul, Ideal.erfc_neg]
/-- The mean of a row, dividing by `N`. -/
def mean {n : ℕ} (N : EReal) (f : Fin n → EReal) : EReal := Ideal.div (∑ j, f j) N
/-- The reciprocal deviation of a row from its centred squares. -/
def rdev {n : ℕ} (N : EReal) (f : Fin n → EReal) : EReal :=
  Ideal.rsqrt (Ideal.div (∑ j, (f j - mean N f) * (f j - mean N f)) N + eps)
/-- The reciprocal deviation of a row from its mean square, multiplying by `N`. -/
def rdevK {n : ℕ} (N : EReal) (f : Fin n → EReal) : EReal :=
  Ideal.rsqrt ((∑ j, f j * f j) * N - (∑ j, f j) * N * ((∑ j, f j) * N) + eps)
/-- A row normalised. -/
def norm {n : ℕ} (N : EReal) (f : Fin n → EReal) (k : Fin n) : EReal := (f k - mean N f) * rdev N f
/-- A row normalised, the kernel's way. -/
def normK {n : ℕ} (N : EReal) (f : Fin n → EReal) (k : Fin n) : EReal := (f k - (∑ j, f j) * N) * rdevK N f
/-- A row times a matrix. -/
def mv {m n : ℕ} (f : Fin m → EReal) (w : Fin m → Fin n → EReal) (k : Fin n) : EReal := ∑ d, f d * w d k
/-- The softmax of a row. -/
def softmax {n : ℕ} (g : Fin n → EReal) (l : Fin n) : EReal :=
  Ideal.div (Ideal.exp (g l - Finset.univ.fold max ⊥ g)) (∑ k, Ideal.exp (g k - Finset.univ.fold max ⊥ g))
/-- One plus the elu. -/
def elu1 (y : EReal) : EReal := 1 + if 0 < y then y else Ideal.exp y - 1

section
variable {m h d n e : ℕ}
/-- The normalised hidden row of the query. -/
def hidQ (N : EReal) (z : Fin d → EReal) (wq1 : Fin d → Fin h → EReal) (bq1 g b : Fin h → EReal) (k : Fin h) : EReal :=
  norm N (fun k => gelu (mv z wq1 k + bq1 k)) k * g k + b k
/-- The attention of a row over the keys. -/
def att (z : Fin d → EReal) (hq : Fin h → EReal) (wq2 : Fin h → Fin d → EReal) (bq2 : Fin d → EReal)
    (pe : Fin n → Fin e → EReal) (wk : Fin e → Fin d → EReal) : Fin n → EReal :=
  softmax fun l => ∑ j, elu1 (z j + (mv hq wq2 j + bq2 j)) * mv (pe l) wk j
/-- A row's value before its second normalisation. -/
def val (N : EReal) (x : Fin d → EReal) (w1 : Fin d → Fin h → EReal) (w2 : Fin h → Fin d → EReal) : Fin d → EReal :=
  mv (norm N fun k => gelu (mv x w1 k)) w2
/-- A row's value before its second normalisation, the kernel's way. -/
def valK (N : EReal) (x : Fin d → EReal) (w1 : Fin d → Fin h → EReal) (w2 : Fin h → Fin d → EReal) : Fin d → EReal :=
  mv (normK N fun k => gelu (mv x w1 k)) w2
end

/-- A finite number. -/
def Real' (x : EReal) : Prop := ∃ r : ℝ, x = (r : EReal)

namespace Real'
/-- A sum of real numbers is real. -/
theorem add {x y : EReal} : Real' x → Real' y → Real' (x + y)
  | ⟨a, ha⟩, ⟨b, hb⟩ => ⟨a + b, by rw [ha, hb, EReal.coe_add]⟩
/-- A difference of real numbers is real. -/
theorem sub {x y : EReal} : Real' x → Real' y → Real' (x - y)
  | ⟨a, ha⟩, ⟨b, hb⟩ => ⟨a - b, by rw [ha, hb, EReal.coe_sub]⟩
/-- A product of real numbers is real. -/
theorem mul {x y : EReal} : Real' x → Real' y → Real' (x * y)
  | ⟨a, ha⟩, ⟨b, hb⟩ => ⟨a * b, by rw [ha, hb, EReal.coe_mul]⟩
/-- One is real. -/
theorem one : Real' 1 := ⟨1, rfl⟩
/-- Zero is real. -/
theorem zero : Real' 0 := ⟨0, rfl⟩
/-- A row's sum of real numbers is real. -/
theorem sum {n : ℕ} {f : Fin n → EReal} (hf : ∀ k, Real' (f k)) : Real' (∑ k, f k) := by
  choose g hg using hf
  exact ⟨∑ k, g k, by simp only [hg]; exact (map_sum (⟨⟨fun r : ℝ => (r : EReal), rfl⟩, EReal.coe_add⟩ : ℝ →+ EReal) g Finset.univ).symm⟩
/-- The error function of a real number is real. -/
theorem erf {x : EReal} : Real' x → Real' (Ideal.erf x)
  | ⟨a, ha⟩ => ⟨_, by rw [ha]; rfl⟩
/-- The exponential of a real number is real. -/
theorem exp {x : EReal} : Real' x → Real' (Ideal.exp x)
  | ⟨a, ha⟩ => ⟨_, by rw [ha]; rfl⟩
/-- The gelu of a real number is real. -/
theorem gelu {x : EReal} (hx : Real' x) : Real' (Row.gelu x) :=
  (Real'.mul half_eq hx).mul (one.add (erf (hx.mul rt_eq)))
/-- A row of real numbers times a matrix of real numbers is real. -/
theorem mv {m n : ℕ} {f : Fin m → EReal} {w : Fin m → Fin n → EReal} (hf : ∀ k, Real' (f k)) (hw : ∀ d k, Real' (w d k)) (k : Fin n) :
    Real' (Row.mv f w k) := sum fun d => (hf d).mul (hw d k)
/-- One plus the elu of a real number is real. -/
theorem elu1 {x : EReal} (hx : Real' x) : Real' (Row.elu1 x) := by
  unfold Row.elu1; refine one.add ?_; split
  · exact hx
  · exact hx.exp.sub one
end Real'

/-- A sum of real numbers, as an extended real. -/
theorem coe_sum {n : ℕ} (g : Fin n → ℝ) : ((∑ k, g k : ℝ) : EReal) = ∑ k, (g k : EReal) :=
  map_sum (⟨⟨fun r : ℝ => (r : EReal), rfl⟩, EReal.coe_add⟩ : ℝ →+ EReal) g Finset.univ

/-- A quotient of real numbers is their quotient. -/
theorem div_real (x : ℝ) {y : ℝ} (hy : y ≠ 0) : Ideal.div (x : EReal) (y : EReal) = ((x / y : ℝ) : EReal) := by
  rw [Ideal.div_coe hy, ← EReal.coe_mul, mul_one_div]

/-- The reciprocal root of a positive real number. -/
theorem rsqrt_real {x : ℝ} (hx : 0 < x) : Ideal.rsqrt (x : EReal) = (((Real.sqrt x)⁻¹ : ℝ) : EReal) := by
  change (if x < 0 then (⊥ : EReal) else if x = 0 then ⊤ else (((Real.sqrt x)⁻¹ : ℝ) : EReal)) = _
  rw [if_neg (not_lt.mpr hx.le), if_neg hx.ne']

/-- The mean square less the squared mean is the mean of the centred squares. -/
theorem var_eq {n : ℕ} (N : ℝ) (hN : (n : ℝ) = N) (h0 : N ≠ 0) (g : Fin n → ℝ) :
    (∑ j, g j * g j) * (1 / N) - (∑ j, g j) * (1 / N) * ((∑ j, g j) * (1 / N))
      = (∑ j, (g j - (∑ i, g i) / N) * (g j - (∑ i, g i) / N)) / N := by
  have e : ∀ μ : ℝ, (∑ j, (g j - μ) * (g j - μ)) = (∑ j, g j * g j) - 2 * μ * (∑ j, g j) + N * (μ * μ) := by
    intro μ
    have : ∀ j, (g j - μ) * (g j - μ) = g j * g j - 2 * μ * g j + μ * μ := fun j => by ring
    simp only [this, Finset.sum_add_distrib, Finset.sum_sub_distrib, ← Finset.mul_sum, Finset.sum_const, Finset.card_univ,
      Fintype.card_fin, nsmul_eq_mul, hN]
    rw [Finset.mul_sum]; ring
  rw [e]; field_simp; ring

/-- What a row's mean and reciprocal deviation are on a row of real numbers, both ways of writing them. -/
theorem stats {n : ℕ} (N : ℝ) (hN : (n : ℝ) = N) (h0 : 0 < N) (f : Fin n → EReal) (hf : ∀ k, Real' (f k)) :
    ∃ μ r : ℝ, mean (N : EReal) f = (μ : EReal) ∧ (∑ j, f j) * ((1 / N : ℝ) : EReal) = (μ : EReal)
      ∧ rdev (N : EReal) f = (r : EReal) ∧ rdevK ((1 / N : ℝ) : EReal) f = (r : EReal) := by
  choose g hg using hf
  obtain rfl : f = fun k => (g k : EReal) := funext hg
  obtain ⟨e, he, hE⟩ := eps_eq
  have hm : mean (N : EReal) (fun k => (g k : EReal)) = (((∑ j, g j) / N : ℝ) : EReal) := by
    unfold mean; rw [← coe_sum, div_real _ h0.ne']
  have hs : (∑ j, (g j : EReal)) * ((1 / N : ℝ) : EReal) = (((∑ j, g j) * (1 / N) : ℝ) : EReal) := by
    rw [← coe_sum, ← EReal.coe_mul]
  have hv : 0 < (∑ j, (g j - (∑ i, g i) / N) * (g j - (∑ i, g i) / N)) / N + e :=
    add_pos_of_nonneg_of_pos (div_nonneg (Finset.sum_nonneg fun j _ => mul_self_nonneg _) h0.le) he
  refine ⟨(∑ j, g j) / N, (Real.sqrt ((∑ j, (g j - (∑ i, g i) / N) * (g j - (∑ i, g i) / N)) / N + e))⁻¹, hm, by rw [hs, mul_one_div], ?_, ?_⟩
  · unfold rdev; rw [hm]
    simp only [← EReal.coe_sub, ← EReal.coe_mul, ← coe_sum]
    rw [div_real _ h0.ne', hE, ← EReal.coe_add, rsqrt_real hv]
  · unfold rdevK; rw [hs]
    simp only [← EReal.coe_mul, ← coe_sum]
    rw [← EReal.coe_sub, var_eq N hN h0.ne', hE, ← EReal.coe_add, rsqrt_real hv]

/-- On a row of real numbers the kernel's normalisation is the reference's. -/
theorem norm_eq {n : ℕ} (N : ℝ) (hN : (n : ℝ) = N) (h0 : 0 < N) (f : Fin n → EReal) (hf : ∀ k, Real' (f k)) :
    normK ((1 / N : ℝ) : EReal) f = norm (N : EReal) f := by
  obtain ⟨μ, r, h1, h2, h3, h4⟩ := stats N hN h0 f hf
  funext k; unfold normK norm; rw [h1, h2, h3, h4]

/-- A row of real numbers normalised is real. -/
theorem Real'.norm {n : ℕ} (N : ℝ) (hN : (n : ℝ) = N) (h0 : 0 < N) (f : Fin n → EReal) (hf : ∀ k, Real' (f k)) (k : Fin n) :
    Real' (norm (N : EReal) f k) := by
  obtain ⟨μ, r, h1, h2, h3, h4⟩ := stats N hN h0 f hf
  unfold Row.norm; rw [h1, h3]; exact ((hf k).sub ⟨μ, rfl⟩).mul ⟨r, rfl⟩

/-- A number that is not real is infinite. -/
theorem top_or_bot {x : EReal} (h : ¬ Real' x) : x = ⊤ ∨ x = ⊥ := by
  induction x with
  | bot => exact .inr rfl
  | coe r => exact absurd ⟨r, rfl⟩ h
  | top => exact .inl rfl

/-- A real sum has real parts. -/
theorem Real'.of_add {x y : EReal} (h : Real' (x + y)) : Real' x ∧ Real' y := by
  obtain ⟨r, hr⟩ := h
  induction x with
  | bot => rw [EReal.bot_add] at hr; exact absurd hr (EReal.coe_ne_bot r).symm
  | top =>
    induction y with
    | bot => exact absurd hr (EReal.coe_ne_bot r).symm
    | coe b => exact absurd hr (EReal.coe_ne_top r).symm
    | top => exact absurd hr (EReal.coe_ne_top r).symm
  | coe a =>
    induction y with
    | bot => exact absurd hr (EReal.coe_ne_bot r).symm
    | coe b => exact ⟨⟨a, rfl⟩, ⟨b, rfl⟩⟩
    | top => exact absurd hr (EReal.coe_ne_top r).symm

/-- A real sum over a row has a real row. -/
theorem Real'.of_sum {n : ℕ} {f : Fin n → EReal} (h : Real' (∑ j, f j)) (k : Fin n) : Real' (f k) := by
  rw [← Finset.add_sum_erase Finset.univ f (Finset.mem_univ k)] at h
  exact h.of_add.1

/-- A row normalised is real, whatever the row: where an entry is infinite the deviation is infinite and its reciprocal
zero. -/
theorem Real'.norm_any {n : ℕ} (N : ℝ) (hN : (n : ℝ) = N) (h0 : 0 < N) (f : Fin n → EReal) (k : Fin n) :
    Real' (Row.norm (N : EReal) f k) := by
  by_cases hf : ∀ j, Real' (f j)
  · exact Real'.norm N hN h0 f hf k
  have hinf : ∀ {y : EReal}, ¬ Real' y → y * ((1 / N : ℝ) : EReal) = y := fun {y} hy => by
    rcases top_or_bot hy with rfl | rfl
    · exact EReal.top_mul_coe_of_pos (by positivity)
    · exact EReal.bot_mul_coe_of_pos (by positivity)
  have hm : ¬ Real' (mean (N : EReal) f) := by
    unfold mean
    have hs : ¬ Real' (∑ j, f j) := fun h => hf h.of_sum
    rwa [Ideal.div_coe h0.ne', hinf hs]
  have hq : ∀ j, (f j - mean (N : EReal) f) * (f j - mean (N : EReal) f) = ⊤ := fun j => by
    have : ¬ Real' (f j - mean (N : EReal) f) := fun h => hm (by
      obtain ⟨r, hr⟩ := (show Real' (f j + -mean (N : EReal) f) from h).of_add.2
      exact ⟨-r, by rw [← neg_neg (mean (N : EReal) f), hr]; rfl⟩)
    rcases top_or_bot this with h | h <;> rw [h] <;> rfl
  have ht : rdev (N : EReal) f = 0 := by
    unfold rdev; simp only [hq]
    have hs : (∑ _j : Fin n, (⊤ : EReal)) = ⊤ := by
      rcases top_or_bot (x := ∑ _j : Fin n, (⊤ : EReal)) (fun h => by
        obtain ⟨r, hr⟩ := h.of_sum k; exact absurd hr.symm (EReal.coe_ne_top r)) with h | h
      · exact h
      · exact absurd (h ▸ Finset.sum_nonneg fun _ _ => le_top) (by simp)
    obtain ⟨e, _, he⟩ := eps_eq
    rw [hs, Ideal.div_coe h0.ne', EReal.top_mul_coe_of_pos (by positivity), he, EReal.top_add_coe]; rfl
  unfold Row.norm; rw [ht, mul_zero]; exact Real'.zero

/-- The maximum of a row of real numbers is real, or the row is empty. -/
theorem fold_real {ι : Type} (s : Finset ι) (g : ι → ℝ) : (s = ∅ ∧ s.fold max ⊥ (fun k => (g k : EReal)) = ⊥) ∨ Real' (s.fold max ⊥ fun k => (g k : EReal)) := by
  classical
  induction s using Finset.induction_on with
  | empty => exact .inl ⟨rfl, rfl⟩
  | insert a s ha ih =>
    right; rw [Finset.fold_insert ha]
    rcases ih with ⟨_, h⟩ | ⟨r, h⟩
    · rw [h]; exact ⟨g a, max_eq_left bot_le⟩
    · rw [h]; exact ⟨max (g a) r, (EReal.coe_strictMono.monotone.map_max).symm⟩

/-- The softmax of a nonempty row of real numbers is real. -/
theorem Real'.softmax {n : ℕ} (g : Fin (n + 1) → EReal) (hg : ∀ k, Real' (g k)) (l : Fin (n + 1)) : Real' (softmax g l) := by
  choose f hf using hg
  obtain rfl : g = fun k => (f k : EReal) := funext hf
  obtain ⟨M, hM⟩ : Real' (Finset.univ.fold max ⊥ fun k => (f k : EReal)) :=
    (fold_real Finset.univ f).resolve_left fun h => Finset.univ_nonempty.ne_empty h.1
  have he : ∀ k, Ideal.exp ((f k : EReal) - (M : EReal)) = ((Real.exp (f k - M) : ℝ) : EReal) := fun k => by
    rw [← EReal.coe_sub]; rfl
  unfold Row.softmax; rw [hM]; simp only [he]; rw [← coe_sum, div_real]
  · exact ⟨_, rfl⟩
  · exact (Finset.sum_pos (fun k _ => Real.exp_pos _) Finset.univ_nonempty).ne'

/-- The kernel's sums over the sources, source by source. -/
def acc (w : ℕ → EReal) : ℕ → EReal
  | 0 => 0
  | k + 1 => acc w k + w k

/-- The kernel's sums of real numbers are real sums. -/
theorem acc_coe (w : ℕ → ℝ) (k : ℕ) : acc (fun l => (w l : EReal)) k = ((∑ l ∈ Finset.range k, w l : ℝ) : EReal) := by
  induction k with
  | zero => rfl
  | succ k ih => rw [acc, ih, Finset.sum_range_succ, EReal.coe_add]

/-- The kernel's total at one entry is the reference's: the values and their means are weighted, summed over the sources,
and their difference taken at the end. -/
theorem total_eq {n : ℕ} (z : EReal) (hz : Real' z) (v mu r a : ℕ → EReal) (hv : ∀ l, Real' (v l)) (hmu : ∀ l, Real' (mu l))
    (hr : ∀ l, Real' (r l)) (ha : ∀ l, Real' (a l)) :
    acc (fun l => v l * (r l * a l)) (n + 1) + (z - acc (fun l => mu l * (r l * a l)) (n + 1))
      = z + ∑ l : Fin (n + 1), a l * ((v l - mu l) * r l) := by
  choose v' hv using hv
  choose m' hmu using hmu
  choose r' hr using hr
  choose a' ha using ha
  obtain ⟨z', hz⟩ := hz
  simp only [hv, hmu, hr, ha, hz, ← EReal.coe_mul, ← EReal.coe_sub]
  rw [acc_coe, acc_coe, ← coe_sum, ← EReal.coe_sub, ← EReal.coe_add, ← EReal.coe_add, Fin.sum_univ_eq_sum_range (fun l => a' l * ((v' l - m' l) * r' l))]
  congr 1
  have : ∀ l, a' l * ((v' l - m' l) * r' l) = v' l * (r' l * a' l) - m' l * (r' l * a' l) := fun l => by ring
  simp only [this, Finset.sum_sub_distrib]; ring

end Cert.Proof.Row
end
-- ==== Proof.KernelTerms.lean ====
module

public import proofs.«01_k».proof.Proof.FirstCall
public import proofs.«01_k».proof.Proof.Rows

@[expose] public section

set_option maxRecDepth 16384

noncomputable section

/-! The kernel bodies' values at one index, as the row functions of the blocks they read. -/

namespace Cert.Proof.KI

open Cert.KernelIdeal Cert.KernelIdeal.Gen
open Idealize.ShloMosaic
open Cert.Proof.Row
open scoped BigOperators

/-- A choice by the equality of two words. -/
theorem select_eq {α : Type} (a b : BitVec 32) (s t : α) : Scalar.select (IntOp.cmpi CmpIPredicate.eq a b) s t = if a = b then s else t := by
  by_cases h : a = b
  · simp [Scalar.select, IntOp.cmpi, h]
  · have : (a == b) = false := beq_eq_false_iff_ne.mpr h
    simp [Scalar.select, IntOp.cmpi, h, this]

/-- Two sources' words are equal only if the sources are. -/
theorem word_inj (k l : Fin 33) : BitVec.ofNat 32 k.val = BitVec.ofNat 32 l.val ↔ k = l := by
  refine ⟨fun h => Fin.ext ?_, fun h => by rw [h]⟩
  have := congrArg BitVec.toNat h; simp at this; omega

section
variable (x : Vec Ideal S1x512x2048 .f32) (w : Vec Ideal S1x2048x1024 .bf16) (u : Vec Ideal S1x1024x2048 .bf16)

/-- Row `p` of a tile. -/
abbrev rowX (p : Fin 512) (d : Fin 2048) : EReal := x (ix3 0 p d)
/-- A block of first weights. -/
abbrev matW (d : Fin 2048) (k : Fin 1024) : EReal := w (ix3 0 d k)
/-- A block of second weights. -/
abbrev matU (k : Fin 1024) (d : Fin 2048) : EReal := u (ix3 0 k d)

/-- The hidden tile. -/
theorem hid_apply (p : Fin 512) (k : Fin 1024) : k1_pay7 (F := Ideal) x w (ix2 p k) = gelu (mv (rowX x p) (matW w) k) := by
  have e : k1_pay7 (F := Ideal) x w (ix2 p k) = Ideal.ofBits .f32 0x3F000000#32 * (∑ d : Fin 2048, x (ix3 0 p d) * w (ix3 0 d k))
      * (1 + FloatOps.erf (F := Ideal) (φ := .f32) ((∑ d : Fin 2048, x (ix3 0 p d) * w (ix3 0 d k)) * Ideal.ofBits .f32 0x3F3504F3#32)) := by
    pointwise [k1_pay7, k1_pay6]
  exact e

/-- The value tile. -/
theorem valV_apply (p : Fin 512) (d : Fin 2048) : valV (F := Ideal) x w u (ix2 p d) = valK invH (rowX x p) (matW w) (matU u) d := by
  have e : valV (F := Ideal) x w u (ix2 p d) = ∑ k, normK invH (fun k => k1_pay7 (F := Ideal) x w (ix2 p k)) k * u (ix3 0 k d) := by
    unfold normK rdevK invH eps
    pointwise [valV, k1_pay9, k1_pay8, mean1]
  rw [e]; simp only [hid_apply x w]; rfl

/-- Its rows' means. -/
theorem muV_apply (p : Fin 512) : muV (F := Ideal) x w u (ix2 p 0) = (∑ d, valK invH (rowX x p) (matW w) (matU u) d) * invD := by
  simp only [← valV_apply]; unfold invD
  pointwise [muV, k1_pay10, valV]

/-- The rows' weights at source `l`: the reciprocal deviation times the attention. -/
theorem scaleV_apply (at' : Vec Ideal S512x33 .f32) (l : Fin 33) (p : Fin 512) :
    scaleV (F := Ideal) (BitVec.ofNat 32 l.val) x w u at' (ix2 p 0) = rdevK invD (valK invH (rowX x p) (matW w) (matU u)) * at' (ix2 p l) := by
  have e : scaleV (F := Ideal) (BitVec.ofNat 32 l.val) x w u at' (ix2 p 0)
      = Ideal.rsqrt ((∑ d, valV (F := Ideal) x w u (ix2 p d) * valV (F := Ideal) x w u (ix2 p d)) * invD - muV (F := Ideal) x w u (ix2 p 0) * muV (F := Ideal) x w u (ix2 p 0) + eps)
        * ∑ k : Fin 33, Scalar.select (IntOp.cmpi CmpIPredicate.eq (BitVec.ofNat 32 k.val) (BitVec.ofNat 32 l.val)) (at' (ix2 p k)) (0 : EReal) := by
    unfold eps invD
    pointwise [scaleV, k1_pay11, valV, muV]
  rw [e]; simp only [valV_apply, muV_apply]; unfold rdevK
  simp only [select_eq, word_inj]
  rw [Finset.sum_ite_eq' Finset.univ l fun k => at' (ix2 p k), if_pos (Finset.mem_univ l)]

/-- What a source adds to the running sum at an entry. -/
abbrev share (at' : Vec Ideal S512x33 .f32) (l : Fin 33) (p : Fin 512) (d : Fin 2048) : EReal :=
  valK invH (rowX x p) (matW w) (matU u) d * (rdevK invD (valK invH (rowX x p) (matW w) (matU u)) * at' (ix2 p l))
/-- What a source adds to the running sum of means. -/
abbrev shareM (at' : Vec Ideal S512x33 .f32) (l : Fin 33) (p : Fin 512) : EReal :=
  (∑ d, valK invH (rowX x p) (matW w) (matU u) d) * invD * (rdevK invD (valK invH (rowX x p) (matW w) (matU u)) * at' (ix2 p l))

/-- The running sum after a source. -/
theorem accNext_apply (at' : Vec Ideal S512x33 .f32) (old : Vec Ideal S1x512x2048 .f32) (l : Fin 33) (p : Fin 512) (d : Fin 2048) :
    accNext (F := Ideal) (BitVec.ofNat 32 l.val) x w u at' old (ix3 0 p d)
      = if l = 0 then share x w u at' l p d else old (ix3 0 p d) + share x w u at' l p d := by
  unfold share; rw [← valV_apply, ← scaleV_apply]
  have e : accNext (F := Ideal) (BitVec.ofNat 32 l.val) x w u at' old (ix3 0 p d)
      = Scalar.select (IntOp.cmpi CmpIPredicate.eq (BitVec.ofNat 32 l.val) (BitVec.ofNat 32 (0 : Fin 33).val)) (valV (F := Ideal) x w u (ix2 p d) * scaleV (F := Ideal) (BitVec.ofNat 32 l.val) x w u at' (ix2 p 0))
         (old (ix3 0 p d) + valV (F := Ideal) x w u (ix2 p d) * scaleV (F := Ideal) (BitVec.ofNat 32 l.val) x w u at' (ix2 p 0)) := by
    unfold accNext
    pointwise [k1_pay3, k1_pay2]; rfl
  rw [e]; simp only [select_eq, word_inj]

/-- The running sum of means after a source. -/
theorem saccNext_apply (at' : Vec Ideal S512x33 .f32) (old : Vec Ideal S1x512x1 .f32) (l : Fin 33) (p : Fin 512) :
    saccNext (F := Ideal) (BitVec.ofNat 32 l.val) x w u at' old (ix3 0 p 0)
      = if l = 0 then shareM x w u at' l p else old (ix3 0 p 0) + shareM x w u at' l p := by
  unfold shareM; rw [← muV_apply, ← scaleV_apply]
  have e : saccNext (F := Ideal) (BitVec.ofNat 32 l.val) x w u at' old (ix3 0 p 0)
      = Scalar.select (IntOp.cmpi CmpIPredicate.eq (BitVec.ofNat 32 l.val) (BitVec.ofNat 32 (0 : Fin 33).val)) (muV (F := Ideal) x w u (ix2 p 0) * scaleV (F := Ideal) (BitVec.ofNat 32 l.val) x w u at' (ix2 p 0))
         (old (ix3 0 p 0) + muV (F := Ideal) x w u (ix2 p 0) * scaleV (F := Ideal) (BitVec.ofNat 32 l.val) x w u at' (ix2 p 0)) := by
    unfold saccNext
    pointwise [k1_pay4, k1_pay1]; rfl
  rw [e]; simp only [select_eq, word_inj]

/-- The output tile: both running sums completed, and the row less the means added. -/
theorem outV_apply (at' : Vec Ideal S512x33 .f32) (a : Vec Ideal S1x512x2048 .f32) (s : Vec Ideal S1x512x1 .f32) (l : Fin 33) (p : Fin 512) (d : Fin 2048) :
    outV (F := Ideal) (BitVec.ofNat 32 l.val) x w u at' a s (ix2 p d)
      = a (ix3 0 p d) + share x w u at' l p d + (rowX x p d - (s (ix3 0 p 0) + shareM x w u at' l p)) := by
  unfold share shareM; rw [← valV_apply, ← muV_apply, ← scaleV_apply]
  unfold outV; pointwise [k1_pay5, k1_pay1, k1_pay2, k1_pay6]

end

/-- The attention tile. -/
theorem attOf_apply (z : Vec Ideal S256x2048 .f32) (w1 : Vec Ideal S2048x1024 .f32) (b1 g e : Vec Ideal S1x1024 .f32) (w2 : Vec Ideal S1024x2048 .f32)
    (b2 : Vec Ideal S1x2048 .f32) (pe : Vec Ideal S33x24 .f32) (wk : Vec Ideal S24x2048 .f32) (p : Fin 256) (l : Fin 33) :
    attOf (F := Ideal) z w1 b1 g e w2 b2 pe wk (ix2 p l)
      = att (fun d => z (ix2 p d)) (hidQ lenH (fun d => z (ix2 p d)) (fun d k => w1 (ix2 d k)) (fun k => b1 (ix2 0 k)) (fun k => g (ix2 0 k)) (fun k => e (ix2 0 k)))
          (fun k d => w2 (ix2 k d)) (fun d => b2 (ix2 0 d)) (fun l p => pe (ix2 l p)) (fun p d => wk (ix2 p d)) l := by
  have h : ∀ k, k0_pay3 (F := Ideal) z w1 b1 g e (ix2 p k)
      = hidQ lenH (fun d => z (ix2 p d)) (fun d k => w1 (ix2 d k)) (fun k => b1 (ix2 0 k)) (fun k => g (ix2 0 k)) (fun k => e (ix2 0 k)) k := by
    intro k
    have e : ∀ y : Ideal .f32, Ideal.erf y = FloatOps.erf (F := Ideal) (φ := .f32) y := fun _ => rfl
    unfold hidQ Row.norm rdev mean gelu mv half rt lenH eps
    simp only [e]
    pointwise [k0_pay3, k0_pay2]
  unfold att; rw [← show (fun k => k0_pay3 (F := Ideal) z w1 b1 g e (ix2 p k)) = _ from funext h]
  unfold softmax elu1 mv; simp only [← bot_eq]
  unfold attOf; pointwise [k0_pay1, k0_pay2]

end Cert.Proof.KI
end
-- ==== Proof.Arrays.lean ====
module

public import proofs.«01_k».proof.Proof.KernelTerms
public import proofs.«01_k».proof.Proof.Calls
public import Idealize.ShloMosaic.Lib.Pipeline.ValueKit
public import Idealize.ShloMosaic.Lib.StableHlo.ReadAt

@[expose] public section

set_option maxRecDepth 16384

noncomputable section

/-! The arrays the two calls leave, at one index. -/

namespace Cert.Proof.KI

open Cert.KernelIdeal Cert.KernelIdeal.Gen
open Idealize.ShloMosaic Idealize.ShloMosaic.StableHlo Idealize.ShloMosaic.TcCoe
open Idealize.ShloMosaic.Pipeline
open Cert.Proof.Row
open scoped BigOperators

section Second
variable (V : (c : Dev nD) → (b : Ref sig .tc) → Buf (Elt Ideal) ((c : Thread nD τ).loc b)) (c : Dev nD)

/-! Which block of its array each window of the second call is on. -/
/-- The attention's block at a point is the point's block of rows. -/
theorem idx1_0 : ∀ t : Fin cfg1.N, win1_0.index t = ![t.val % 4, 0] := (by decide +kernel : ∀ t : Fin grid1.N, _)
/-- The first weights' block at a point is the point's source. -/
theorem idx1_1 : ∀ t : Fin cfg1.N, win1_1.index t = ![t.val / 4, 0, 0] := (by decide +kernel : ∀ t : Fin grid1.N, _)
/-- The second weights' block at a point is the point's source. -/
theorem idx1_2 : ∀ t : Fin cfg1.N, win1_2.index t = ![t.val / 4, 0, 0] := (by decide +kernel : ∀ t : Fin grid1.N, _)
/-- The result's block at a point of the last source is the point's block of rows. -/
theorem idx1_3 : ∀ t : Fin cfg1.N, 128 ≤ t.val → win1_3.index t = ![t.val % 4, 0] := (by decide +kernel : ∀ t : Fin grid1.N, _)

/-- The second call's rows, by sample and source. -/
abbrev gX (b : Fin 2048) (l : Fin 33) (d : Fin 2048) : EReal := V c main_arg0 (ix3 b l d)
/-- The second call's first weights, by source. -/
abbrev gW (l : Fin 33) (d : Fin 2048) (k : Fin 1024) : EReal := V c main_v2 (ix3 l d k)
/-- The second call's second weights, by source. -/
abbrev gU (l : Fin 33) (k : Fin 1024) (d : Fin 2048) : EReal := V c main_v3 (ix3 l k d)
/-- The second call's attention, by sample and source. -/
abbrev gA (b : Fin 2048) (l : Fin 33) : EReal := V c main_v8 (ix2 b l)

/-- The attention block of a point, entry by entry. -/
theorem at1_apply (t : Fin cfg1.N) (p : Fin 512) (l : Fin 33) (B : Fin 2048) (hB : B.val = 512 * (t.val % 4) + p.val) :
    at1 V c t (ix2 p l) = gA V c B l := by
  unfold at1 gA
  blk_ext [idx1_0]

/-- The first weights' block of a point, entry by entry. -/
theorem w1B_apply (t : Fin cfg1.N) (d : Fin 2048) (k : Fin 1024) (l : Fin 33) (hl : t.val / 4 = l.val) :
    w1B V c t (ix3 0 d k) = gW V c l d k := by
  unfold w1B gW
  blk_ext [idx1_1]

/-- The second weights' block of a point, entry by entry. -/
theorem w2B_apply (t : Fin cfg1.N) (k : Fin 1024) (d : Fin 2048) (l : Fin 33) (hl : t.val / 4 = l.val) :
    w2B V c t (ix3 0 k d) = gU V c l k d := by
  unfold w2B gU
  blk_ext [idx1_2]

/-- The rows of a point, entry by entry. -/
theorem xs1_apply (n : ℕ) (p : Fin 512) (d : Fin 2048) (l : Fin 33) (hl : n / 4 = l.val) (B : Fin 2048) (hB : B.val = 512 * (n % 4) + p.val) :
    xs1 V c n (ix3 0 p d) = gX V c B l d := by
  show (xN n).view.read (Elt Ideal) (V c main_arg0) (ix2 p d) = _
  have hc : S512x1x2048.ShapeCasts S512x2048 := by decide
  refine (congrFun (Memref.read_squeeze_slice (Val := Elt Ideal) (Memref.whole main_arg0) _ (fun _ => rfl) squeezes_S512x1x2048_S512x2048 hc (V c main_arg0)) _).trans ?_
  have e : ∀ v : Vec Ideal S512x1x2048 .f32, shapeCast S512x2048 v hc (ix2 p d) = v (ix3 p 0 d) := by intro v; pointwise
  refine (e _).trans ?_
  refine congrArg (V c main_arg0) ?_
  funext a; apply Fin.ext
  have h33 : n / 4 % 33 = l.val := by rw [hl]; exact Nat.mod_eq_of_lt l.isLt
  fin_cases a
  · show n % 4 * 512 + 1 * p.val = B.val; omega
  · show n / 4 % 33 + 1 * 0 = l.val; omega
  · show 0 + 1 * d.val = d.val; omega

/-- The value row of sample `B` and source `l`. -/
abbrev gV (B : Fin 2048) (l : Fin 33) : Fin 2048 → EReal := valK invH (gX V c B l) (gW V c l) (gU V c l)

/-- What point `4 k + b` adds to the running sums is source `k`'s share. -/
theorem share_apply (k : Fin 33) (b : ℕ) (hb : b < 4) (p : Fin 512) (d : Fin 2048) (B : Fin 2048) (hB : B.val = 512 * b + p.val) :
    share (xs1 V c (4 * k.val + b)) (w1B V c (pnt (4 * k.val + b))) (w2B V c (pnt (4 * k.val + b))) (at1 V c (pnt (4 * k.val + b))) k p d
        = gV V c B k d * (rdevK invD (gV V c B k) * gA V c B k)
      ∧ shareM (xs1 V c (4 * k.val + b)) (w1B V c (pnt (4 * k.val + b))) (w2B V c (pnt (4 * k.val + b))) (at1 V c (pnt (4 * k.val + b))) k p
        = (∑ d, gV V c B k d) * invD * (rdevK invD (gV V c B k) * gA V c B k) := by
  have hk := k.isLt
  have hp : (pnt (4 * k.val + b)).val = 4 * k.val + b := Nat.mod_eq_of_lt (by omega)
  have e1 : rowX (xs1 V c (4 * k.val + b)) p = gX V c B k := funext fun d => xs1_apply V c _ p d k (by omega) B (by omega)
  have e2 : matW (w1B V c (pnt (4 * k.val + b))) = gW V c k := funext fun d => funext fun j => w1B_apply V c _ d j k (by omega)
  have e3 : matU (w2B V c (pnt (4 * k.val + b))) = gU V c k := funext fun d => funext fun j => w2B_apply V c _ d j k (by omega)
  have e4 : at1 V c (pnt (4 * k.val + b)) (ix2 p k) = gA V c B k := at1_apply V c _ p k B (by omega)
  unfold share shareM; rw [e1, e2, e3, e4]; exact ⟨rfl, rfl⟩

/-- A source's number, for any natural number. -/
def src (n : ℕ) : Fin 33 := ⟨n % 33, Nat.mod_lt _ (by decide)⟩
/-- A source is the source of its number. -/
theorem src_val (k : Fin 33) : src k.val = k := Fin.ext (Nat.mod_eq_of_lt k.isLt)

/-- The weighted value of source `l` at an entry. -/
def wv (B : Fin 2048) (d : Fin 2048) (l : ℕ) : EReal := gV V c B (src l) d * (rdevK invD (gV V c B (src l)) * gA V c B (src l))
/-- The weighted mean of source `l`'s value. -/
def wm (B : Fin 2048) (l : ℕ) : EReal := (∑ d, gV V c B (src l) d) * invD * (rdevK invD (gV V c B (src l)) * gA V c B (src l))

/-- The sum of weighted values of the first `k` sources, entry by entry. -/
theorem accAt_apply (b : ℕ) (hb : b < 4) (p : Fin 512) (d : Fin 2048) (B : Fin 2048) (hB : B.val = 512 * b + p.val) (k : ℕ) (hk : k ≤ 33) :
    accAt V c b k (ix3 0 p d) = acc (wv V c B d) k := by
  induction k with
  | zero => exact Ideal.ofBits_zero_f32
  | succ k ih =>
    have hs := (share_apply V c ⟨k, hk⟩ b hb p d B hB).1
    have hw : wv V c B d k = gV V c B ⟨k, hk⟩ d * (rdevK invD (gV V c B ⟨k, hk⟩) * gA V c B ⟨k, hk⟩) := by
      unfold wv; rw [show src k = ⟨k, hk⟩ from src_val ⟨k, hk⟩]
    refine (accNext_apply _ _ _ _ _ (⟨k, hk⟩ : Fin 33) p d).trans ?_
    rw [hs, ← hw, ih (by omega)]
    split
    · next h => obtain rfl : k = 0 := congrArg Fin.val h; exact (zero_add _).symm
    · rfl

/-- The sum of weighted means of the first `k` sources, entry by entry. -/
theorem saccAt_apply (b : ℕ) (hb : b < 4) (p : Fin 512) (B : Fin 2048) (hB : B.val = 512 * b + p.val) (k : ℕ) (hk : k ≤ 33) :
    saccAt V c b k (ix3 0 p 0) = acc (wm V c B) k := by
  induction k with
  | zero => exact Ideal.ofBits_zero_f32
  | succ k ih =>
    have hs := (share_apply V c ⟨k, hk⟩ b hb p 0 B hB).2
    have hw : wm V c B k = (∑ d, gV V c B ⟨k, hk⟩ d) * invD * (rdevK invD (gV V c B ⟨k, hk⟩) * gA V c B ⟨k, hk⟩) := by
      unfold wm; rw [show src k = ⟨k, hk⟩ from src_val ⟨k, hk⟩]
    refine (saccNext_apply _ _ _ _ _ (⟨k, hk⟩ : Fin 33) p).trans ?_
    rw [hs, ← hw, ih (by omega)]
    split
    · next h => obtain rfl : k = 0 := congrArg Fin.val h; exact (zero_add _).symm
    · rfl

/-- The second call's result at an entry. -/
def outE (B d : Fin 2048) : EReal := acc (wv V c B d) 33 + (gX V c B 32 d - acc (wm V c B) 33)

/-- The block written at a point of the last source, entry by entry. -/
theorem outAt_apply (b : ℕ) (hb : b < 4) (p : Fin 512) (d : Fin 2048) (B : Fin 2048) (hB : B.val = 512 * b + p.val) :
    outAt V c (128 + b) (ix2 p d) = outE V c B d := by
  have e1 : (128 + b) / 4 = (32 : Fin 33).val := by show _ = 32; omega
  have e2 : (128 + b) % 4 = b := by omega
  have hs := share_apply V c 32 b hb p d B hB
  have hx : rowX (xs1 V c (128 + b)) p d = gX V c B 32 d := xs1_apply V c _ p d 32 e1 B (by omega)
  unfold outAt; rw [e1, e2, outV_apply, accAt_apply V c b hb p d B hB 32 (by decide), saccAt_apply V c b hb p B hB 32 (by decide), hx]
  exact congrArg₂ (· + ·) (congrArg (acc (wv V c B d) 32 + ·) hs.1) (congrArg (gX V c B 32 d - ·) (congrArg (acc (wm V c B) 32 + ·) hs.2))

/-- The array the second call leaves, entry by entry. -/
theorem arr1 (B d : Fin 2048) : (dat1 V c).arrAt 3 cfg1.N (ix2 B d) = outE V c B d := by
  refine congrFun ((dat1 V c).arrAt_eq_of_covers 3 (fun i : S2048x2048.Idx => outE V c (i 0) (i 1)) (by decide +kernel) fun t hf y => ?_) (ix2 B d)
  have ht : 128 ≤ t.val := by have := (flush3_at t).symm.trans hf; simpa using this
  have hN := t.isLt.trans_eq N_1
  show outAt V c t.val y = outE V c _ _
  obtain ⟨p, d, rfl⟩ : ∃ (p : Fin 512) (d : Fin 2048), y = ix2 p d := ⟨y 0, y 1, ValueIdx.eq_ix2 y⟩
  have h0 : (((win1_3.blk t).view.emb (ix2 p d)) 0).val = 512 * (t.val % 4) + p.val := by blk_simp [idx1_3 t ht]; omega
  have h1 : ((win1_3.blk t).view.emb (ix2 p d)) 1 = d := by apply Fin.ext; blk_simp [idx1_3 t ht]
  have hn : 128 + t.val % 4 = t.val := by omega
  have := outAt_apply V c (t.val % 4) (Nat.mod_lt _ (by decide)) p d (((win1_3.blk t).view.emb (ix2 p d)) 0) h0
  rw [hn] at this
  exact this.trans (congrArg (outE V c _) h1.symm)

end Second

section First
variable (V : (c : Dev nD) → (b : Ref sig .tc) → Buf (Elt Ideal) ((c : Thread nD τ).loc b)) (c : Dev nD)

/-! Which block of its array each window of the first call is on. -/
/-- The query rows' block at a point is the point's. -/
theorem idx0_0 : ∀ t : Fin cfg0.N, win0_0.index t = ![t.val, 0] := (by decide +kernel : ∀ t : Fin grid0.N, _)
/-- Window 1 of the first call is on its whole array. -/
theorem idx0_1 : ∀ t : Fin cfg0.N, win0_1.index t = ![0, 0] := (by decide +kernel : ∀ t : Fin grid0.N, _)
/-- Window 2 of the first call is on its whole array. -/
theorem idx0_2 : ∀ t : Fin cfg0.N, win0_2.index t = ![0, 0] := (by decide +kernel : ∀ t : Fin grid0.N, _)
/-- Window 3 of the first call is on its whole array. -/
theorem idx0_3 : ∀ t : Fin cfg0.N, win0_3.index t = ![0, 0] := (by decide +kernel : ∀ t : Fin grid0.N, _)
/-- Window 4 of the first call is on its whole array. -/
theorem idx0_4 : ∀ t : Fin cfg0.N, win0_4.index t = ![0, 0] := (by decide +kernel : ∀ t : Fin grid0.N, _)
/-- Window 5 of the first call is on its whole array. -/
theorem idx0_5 : ∀ t : Fin cfg0.N, win0_5.index t = ![0, 0] := (by decide +kernel : ∀ t : Fin grid0.N, _)
/-- Window 6 of the first call is on its whole array. -/
theorem idx0_6 : ∀ t : Fin cfg0.N, win0_6.index t = ![0, 0] := (by decide +kernel : ∀ t : Fin grid0.N, _)
/-- Window 7 of the first call is on its whole array. -/
theorem idx0_7 : ∀ t : Fin cfg0.N, win0_7.index t = ![0, 0] := (by decide +kernel : ∀ t : Fin grid0.N, _)
/-- Window 8 of the first call is on its whole array. -/
theorem idx0_8 : ∀ t : Fin cfg0.N, win0_8.index t = ![0, 0] := (by decide +kernel : ∀ t : Fin grid0.N, _)
/-- The attention's block at a point is the point's. -/
theorem idx0_9 : ∀ t : Fin cfg0.N, win0_9.index t = ![t.val, 0] := (by decide +kernel : ∀ t : Fin grid0.N, _)

/-- The attention of sample `B` from the first call's arrays. -/
def attE (B : Fin 2048) : Fin 33 → EReal :=
  att (fun d => V c main_v1 (ix2 B d)) (hidQ lenH (fun d => V c main_v1 (ix2 B d)) (fun d k => V c main_arg11 (ix2 d k)) (fun k => V c main_v4 (ix2 0 k))
      (fun k => V c main_v5 (ix2 0 k)) (fun k => V c main_v6 (ix2 0 k)))
    (fun k d => V c main_arg15 (ix2 k d)) (fun d => V c main_v7 (ix2 0 d)) (fun l p => V c main_arg1 (ix2 l p)) (fun p d => V c main_arg2 (ix2 p d))

/-- The attention block a point writes, entry by entry. -/
theorem attAt_apply (t : Fin cfg0.N) (p : Fin 256) (l : Fin 33) (B : Fin 2048) (hB : B.val = 256 * t.val + p.val) :
    attAt V c t (ix2 p l) = attE V c B l := by
  have e0 : ∀ d : Fin 2048, blk0_0 V c t (ix2 p d) = (V c main_v1 (ix2 B d) : EReal) := fun d => by unfold blk0_0; blk_ext [idx0_0]
  have e1 : ∀ (d : Fin 2048) (k : Fin 1024), blk0_1 V c t (ix2 d k) = (V c main_arg11 (ix2 d k) : EReal) := fun d k => by unfold blk0_1; blk_ext [idx0_1]
  have e2 : ∀ (k : Fin 1024), blk0_2 V c t (ix2 0 k) = (V c main_v4 (ix2 0 k) : EReal) := fun k => by unfold blk0_2; blk_ext [idx0_2]
  have e3 : ∀ (k : Fin 1024), blk0_3 V c t (ix2 0 k) = (V c main_v5 (ix2 0 k) : EReal) := fun k => by unfold blk0_3; blk_ext [idx0_3]
  have e4 : ∀ (k : Fin 1024), blk0_4 V c t (ix2 0 k) = (V c main_v6 (ix2 0 k) : EReal) := fun k => by unfold blk0_4; blk_ext [idx0_4]
  have e5 : ∀ (k : Fin 1024) (d : Fin 2048), blk0_5 V c t (ix2 k d) = (V c main_arg15 (ix2 k d) : EReal) := fun k d => by unfold blk0_5; blk_ext [idx0_5]
  have e6 : ∀ (d : Fin 2048), blk0_6 V c t (ix2 0 d) = (V c main_v7 (ix2 0 d) : EReal) := fun d => by unfold blk0_6; blk_ext [idx0_6]
  have e7 : ∀ (l : Fin 33) (j : Fin 24), blk0_7 V c t (ix2 l j) = (V c main_arg1 (ix2 l j) : EReal) := fun l j => by unfold blk0_7; blk_ext [idx0_7]
  have e8 : ∀ (j : Fin 24) (d : Fin 2048), blk0_8 V c t (ix2 j d) = (V c main_arg2 (ix2 j d) : EReal) := fun j d => by unfold blk0_8; blk_ext [idx0_8]
  unfold attAt attE; rw [attOf_apply]; simp only [e0, e1, e2, e3, e4, e5, e6, e7, e8]

/-- The attention array the first call leaves. -/
theorem arr0 (B : Fin 2048) (l : Fin 33) : (dat0 V c).arrAt 9 cfg0.N (ix2 B l) = attE V c B l := by
  refine congrFun ((dat0 V c).arrAt_eq_of_covers 9 (fun i : S2048x33.Idx => attE V c (i 0) (i 1)) (by decide +kernel) fun t hf y => ?_) (ix2 B l)
  show attAt V c t y = attE V c _ _
  obtain ⟨p, d, rfl⟩ : ∃ (p : Fin 256) (d : Fin 33), y = ix2 p d := ⟨y 0, y 1, ValueIdx.eq_ix2 y⟩
  have h0 : (((win0_9.blk t).view.emb (ix2 p d)) 0).val = 256 * t.val + p.val := by blk_simp [idx0_9 t]; omega
  have h1 : ((win0_9.blk t).view.emb (ix2 p d)) 1 = d := by apply Fin.ext; blk_simp [idx0_9 t]
  exact (attAt_apply V c t p d _ h0).trans (congrArg (attE V c _) h1.symm)

end First

section Whole
variable (m : (ℓ : Loc nD τ sig) → Buf (Elt Ideal) ℓ) (c : Dev nD)

/-- An argument array of core `c`. -/
abbrev arg (b : Ref sig .tc) : Buf (Elt Ideal) ((c : Thread nD τ).loc b) := m ((c : Thread nD τ).loc b)

/-- The first call's query rows are the last source's rows of `x`. -/
theorem z_apply (B d : Fin 2048) : W1 m c main_v1 (ix2 B d) = (arg m c main_arg0 (ix3 B 32 d) : EReal) := by
  unfold W1 arg V1; after_reads_at
/-- The second call's first weights are the argument's. -/
theorem w_apply (l : Fin 33) (d : Fin 2048) (k : Fin 1024) : W1 m c main_v2 (ix3 l d k) = (arg m c main_arg3 (ix3 l d k) : EReal) := by
  unfold W1 arg V1; after_reads_at
/-- The second call's second weights are the argument's. -/
theorem u_apply (l : Fin 33) (k : Fin 1024) (d : Fin 2048) : W1 m c main_v3 (ix3 l k d) = (arg m c main_arg7 (ix3 l k d) : EReal) := by
  unfold W1 arg V1; after_reads_at
/-- The query's first offset is the argument's. -/
theorem b_apply (k : Fin 1024) : W1 m c main_v4 (ix2 0 k) = (arg m c main_arg12 (ix1 k) : EReal) := by
  unfold W1 arg V1; after_reads_at
/-- The query's gain is the argument's. -/
theorem g_apply (k : Fin 1024) : W1 m c main_v5 (ix2 0 k) = (arg m c main_arg13 (ix1 k) : EReal) := by
  unfold W1 arg V1; after_reads_at
/-- The query's normalisation offset is the argument's. -/
theorem e_apply (k : Fin 1024) : W1 m c main_v6 (ix2 0 k) = (arg m c main_arg14 (ix1 k) : EReal) := by
  unfold W1 arg V1; after_reads_at
/-- The query's second offset is the argument's. -/
theorem c_apply (d : Fin 2048) : W1 m c main_v7 (ix2 0 d) = (arg m c main_arg16 (ix1 d) : EReal) := by
  unfold W1 arg V1; after_reads_at

/-- An array no host operation writes is what it was. -/
theorem W1_arg (b : Ref sig .tc) (h : b ∉ hostOps0_W) : W1 m c b = arg m c b := V1_of m c b h

end Whole

end Cert.Proof.KI
end
-- ==== Proof.RefTerms.lean ====
module

public import proofs.«01_k».proof.Proof.Gen.ReferenceIdeal.Run
public import proofs.«01_k».proof.Proof.Rows
public import Idealize.ShloMosaic.Lib.Tactic.CleanTypes

@[expose] public section

set_option maxRecDepth 16384

noncomputable section

/-! The reference's intermediate arrays at one index, as the row functions of its arguments. -/

namespace Cert.Proof.RI

open Cert.ReferenceIdeal Cert.ReferenceIdeal.Gen Cert.ReferenceIdeal.Value
open Idealize.ShloMosaic Idealize.ShloMosaic.StableHlo
open Cert.Proof.Row
open scoped BigOperators

variable (V : Valuation τ sig (Elt Ideal))

/-- The rows, by sample and source. -/
def x (b : Fin 2048) (l : Fin 33) (d : Fin 2048) : EReal := V (Proc.tc.devRef main_arg0) (ix3 b l d)
/-- The value MLPs' first weights, by source. -/
def w1 (l : Fin 33) (d : Fin 2048) (k : Fin 1024) : EReal := V (Proc.tc.devRef main_arg3) (ix3 l d k)
/-- The value MLPs' second weights, by source. -/
def w2 (l : Fin 33) (k : Fin 1024) (d : Fin 2048) : EReal := V (Proc.tc.devRef main_arg7) (ix3 l k d)
/-- The attention of sample `b` over the sources. -/
def attn (b : Fin 2048) : Fin 33 → EReal :=
  att (x V b 32)
    (hidQ lenH (x V b 32) (fun d k => V (Proc.tc.devRef main_arg11) (ix2 d k)) (fun k => V (Proc.tc.devRef main_arg12) (ix1 k))
      (fun k => V (Proc.tc.devRef main_arg13) (ix1 k)) (fun k => V (Proc.tc.devRef main_arg14) (ix1 k)))
    (fun k d => V (Proc.tc.devRef main_arg15) (ix2 k d)) (fun d => V (Proc.tc.devRef main_arg16) (ix1 d))
    (fun l p => V (Proc.tc.devRef main_arg1) (ix2 l p)) (fun p d => V (Proc.tc.devRef main_arg2) (ix2 p d))

/-- The value MLPs' offsets are zero and their gains one. -/
structure Plain : Prop where
  b1 : ∀ (l : Fin 33) (k : Fin 1024), V (Proc.tc.devRef main_arg4) (ix2 l k) = (0 : EReal)
  g1 : ∀ (l : Fin 33) (k : Fin 1024), V (Proc.tc.devRef main_arg5) (ix2 l k) = (1 : EReal)
  e1 : ∀ (l : Fin 33) (k : Fin 1024), V (Proc.tc.devRef main_arg6) (ix2 l k) = (0 : EReal)
  b2 : ∀ (l : Fin 33) (d : Fin 2048), V (Proc.tc.devRef main_arg8) (ix2 l d) = (0 : EReal)
  g2 : ∀ (l : Fin 33) (d : Fin 2048), V (Proc.tc.devRef main_arg9) (ix2 l d) = (1 : EReal)
  e2 : ∀ (l : Fin 33) (d : Fin 2048), V (Proc.tc.devRef main_arg10) (ix2 l d) = (0 : EReal)

/-! The reference's named arrays, entry by entry. -/

/-- Array 7 at an entry. -/
abbrev t7 (b : Fin 2048) (l : Fin 33) (k : Fin 1024) : EReal := res_main_v7 (F := Ideal) V (ix3 b l k)
/-- Array 14 at an entry. -/
abbrev t14 (b : Fin 2048) (l : Fin 33) (k : Fin 1024) : EReal := res_main_v14 (F := Ideal) V (ix3 b l k)
/-- Array 20 at an entry. -/
abbrev t20 (b : Fin 2048) (l : Fin 33) (k : Fin 1024) : EReal := res_main_v20 (F := Ideal) V (ix3 b l k)
/-- Array 43 at an entry. -/
abbrev t43 (b : Fin 2048) (l : Fin 33) (k : Fin 2048) : EReal := res_main_v43 (F := Ideal) V (ix3 b l k)
/-- Array 49 at an entry. -/
abbrev t49 (b : Fin 2048) (l : Fin 33) (k : Fin 2048) : EReal := res_main_v49 (F := Ideal) V (ix3 b l k)
/-- Array 18 at an entry. -/
abbrev t18 (b : Fin 2048) (l : Fin 33) : EReal := res_main_v18 (F := Ideal) V (ix3 b l 0)
/-- Array 47 at an entry. -/
abbrev t47 (b : Fin 2048) (l : Fin 33) : EReal := res_main_v47 (F := Ideal) V (ix3 b l 0)
/-- Array 1 at an entry. -/
abbrev t1 (b : Fin 2048) (k : Fin 2048) : EReal := res_main_v1 (F := Ideal) V (ix2 b k)
/-- Array 71 at an entry. -/
abbrev t71 (b : Fin 2048) (k : Fin 1024) : EReal := res_main_v71 (F := Ideal) V (ix2 b k)
/-- Array 78 at an entry. -/
abbrev t78 (b : Fin 2048) (k : Fin 1024) : EReal := res_main_v78 (F := Ideal) V (ix2 b k)
/-- Array 84 at an entry. -/
abbrev t84 (b : Fin 2048) (k : Fin 1024) : EReal := res_main_v84 (F := Ideal) V (ix2 b k)
/-- Array 107 at an entry. -/
abbrev t107 (b : Fin 2048) (k : Fin 2048) : EReal := res_main_v107 (F := Ideal) V (ix2 b k)
/-- Array 112 at an entry. -/
abbrev t112 (b : Fin 2048) (k : Fin 33) : EReal := res_main_v112 (F := Ideal) V (ix2 b k)
/-- Array 119 at an entry. -/
abbrev t119 (b : Fin 2048) (k : Fin 33) : EReal := res_main_v119 (F := Ideal) V (ix2 b k)
/-- Array 82 at an entry. -/
abbrev t82 (b : Fin 2048) : EReal := res_main_v82 (F := Ideal) V (ix2 b 0)

/-- The last source's row. -/
theorem v1_apply (b d : Fin 2048) : t1 V b d = x V b 32 d := by
  simp only [t1, t7, t14, t18, t20, t43, t47, t49, t71, t78, t82, t84, t107, t112, t119]; unfold res_main_v1 x; clean_types; pointwise

/-- The value MLPs' first product. -/
theorem v7_apply (h : Plain V) (b : Fin 2048) (l : Fin 33) (k : Fin 1024) :
    t7 V b l k = mv (x V b l) (w1 V l) k := by
  have e : t7 V b l k = ∑ d, w1 V l d k * x V b l d + V (Proc.tc.devRef main_arg4) (ix2 l k) := by
    simp only [t1, t7, t14, t18, t20, t43, t47, t49, t71, t78, t82, t84, t107, t112, t119]; unfold res_main_v7 w1 x; clean_types; pointwise
  rw [e, h.b1, add_zero]; exact Finset.sum_congr rfl fun d _ => mul_comm _ _

/-- The value MLPs' hidden row. -/
theorem v14_apply (h : Plain V) (b : Fin 2048) (l : Fin 33) (k : Fin 1024) :
    t14 V b l k = gelu (mv (x V b l) (w1 V l) k) := by
  rw [← v7_apply V h]; simp only [t1, t7, t14, t18, t20, t43, t47, t49, t71, t78, t82, t84, t107, t112, t119]; rw [gelu_erfc]; unfold res_main_v14 half rt; clean_types; pointwise

/-- Its mean. -/
theorem v18_apply (h : Plain V) (b : Fin 2048) (l : Fin 33) :
    t18 V b l = mean lenH fun k => gelu (mv (x V b l) (w1 V l) k) := by
  simp only [← v14_apply V h]; simp only [t1, t7, t14, t18, t20, t43, t47, t49, t71, t78, t82, t84, t107, t112, t119]; unfold res_main_v18 mean lenH; clean_types; pointwise

/-- The hidden row centred. -/
theorem v20_apply (h : Plain V) (b : Fin 2048) (l : Fin 33) (k : Fin 1024) :
    t20 V b l k
      = gelu (mv (x V b l) (w1 V l) k) - mean lenH fun k => gelu (mv (x V b l) (w1 V l) k) := by
  rw [← v18_apply V h, ← v14_apply V h]; simp only [t1, t7, t14, t18, t20, t43, t47, t49, t71, t78, t82, t84, t107, t112, t119]; unfold res_main_v20; clean_types; pointwise

/-- The value before its second normalisation. -/
theorem v43_apply (h : Plain V) (b : Fin 2048) (l : Fin 33) (d : Fin 2048) :
    t43 V b l d = val lenH (x V b l) (w1 V l) (w2 V l) d := by
  have e : t43 V b l d = ∑ k, w2 V l k d * ((t14 V b l k - t18 V b l)
      * Ideal.rsqrt (Ideal.div (∑ k, t20 V b l k * t20 V b l k) lenH + eps)
      * V (Proc.tc.devRef main_arg5) (ix2 l k) + V (Proc.tc.devRef main_arg6) (ix2 l k)) + V (Proc.tc.devRef main_arg8) (ix2 l d) := by
    simp only [t1, t7, t14, t18, t20, t43, t47, t49, t71, t78, t82, t84, t107, t112, t119]; unfold res_main_v43 w2 lenH eps; clean_types; pointwise
  rw [e, h.b2, add_zero]; simp only [h.g1, h.e1, v14_apply V h, v18_apply V h, v20_apply V h, mul_one, add_zero]
  exact Finset.sum_congr rfl fun k _ => mul_comm _ _

/-- Its mean. -/
theorem v47_apply (h : Plain V) (b : Fin 2048) (l : Fin 33) :
    t47 V b l = mean lenD (val lenH (x V b l) (w1 V l) (w2 V l)) := by
  rw [show val lenH (x V b l) (w1 V l) (w2 V l) = fun d => t43 V b l d from funext fun d => (v43_apply V h b l d).symm]
  simp only [t1, t7, t14, t18, t20, t43, t47, t49, t71, t78, t82, t84, t107, t112, t119]; unfold res_main_v47 mean lenD; clean_types; pointwise

/-- The value centred. -/
theorem v49_apply (h : Plain V) (b : Fin 2048) (l : Fin 33) (d : Fin 2048) :
    t49 V b l d
      = val lenH (x V b l) (w1 V l) (w2 V l) d - mean lenD (val lenH (x V b l) (w1 V l) (w2 V l)) := by
  rw [← v47_apply V h, ← v43_apply V h]; simp only [t1, t7, t14, t18, t20, t43, t47, t49, t71, t78, t82, t84, t107, t112, t119]; unfold res_main_v49; clean_types; pointwise

/-- The query's hidden row before the gelu. -/
theorem v71_apply (b : Fin 2048) (k : Fin 1024) : t71 V b k
    = mv (x V b 32) (fun d k => V (Proc.tc.devRef main_arg11) (ix2 d k)) k + V (Proc.tc.devRef main_arg12) (ix1 k) := by
  unfold mv; simp only [← v1_apply V]; simp only [t1, t7, t14, t18, t20, t43, t47, t49, t71, t78, t82, t84, t107, t112, t119]; unfold res_main_v71; clean_types; pointwise

/-- The query's hidden row. -/
theorem v78_apply (b : Fin 2048) (k : Fin 1024) : t78 V b k = gelu (t71 V b k) := by
  simp only [t1, t7, t14, t18, t20, t43, t47, t49, t71, t78, t82, t84, t107, t112, t119]; rw [gelu_erfc]; unfold res_main_v78 half rt; clean_types; pointwise

/-- Its mean. -/
theorem v82_apply (b : Fin 2048) : t82 V b = mean lenH fun k => t78 V b k := by
  simp only [t1, t7, t14, t18, t20, t43, t47, t49, t71, t78, t82, t84, t107, t112, t119]; unfold res_main_v82 mean lenH; clean_types; pointwise

/-- The query's hidden row centred. -/
theorem v84_apply (b : Fin 2048) (k : Fin 1024) : t84 V b k
    = t78 V b k - mean lenH fun k => t78 V b k := by
  rw [← v82_apply V]; simp only [t1, t7, t14, t18, t20, t43, t47, t49, t71, t78, t82, t84, t107, t112, t119]; unfold res_main_v84; clean_types; pointwise

/-- The query before its elu. -/
theorem v107_apply (b d : Fin 2048) : t107 V b d
    = x V b 32 d + (mv (hidQ lenH (x V b 32) (fun d k => V (Proc.tc.devRef main_arg11) (ix2 d k)) (fun k => V (Proc.tc.devRef main_arg12) (ix1 k))
      (fun k => V (Proc.tc.devRef main_arg13) (ix1 k)) (fun k => V (Proc.tc.devRef main_arg14) (ix1 k)))
      (fun k d => V (Proc.tc.devRef main_arg15) (ix2 k d)) d + V (Proc.tc.devRef main_arg16) (ix1 d)) := by
  have e : t107 V b d = t1 V b d + (∑ k, ((t78 V b k - t82 V b) * Ideal.rsqrt (Ideal.div (∑ k, t84 V b k * t84 V b k) lenH + eps)
      * V (Proc.tc.devRef main_arg13) (ix1 k) + V (Proc.tc.devRef main_arg14) (ix1 k)) * V (Proc.tc.devRef main_arg15) (ix2 k d)
        + V (Proc.tc.devRef main_arg16) (ix1 d)) := by
    simp only [t1, t7, t14, t18, t20, t43, t47, t49, t71, t78, t82, t84, t107, t112, t119]; unfold res_main_v107 lenH eps; clean_types; pointwise
  rw [e]; simp only [v84_apply V, v82_apply V, v78_apply V, v71_apply V, v1_apply V]; rfl

/-- The attention's logits. -/
theorem v112_apply (b : Fin 2048) (l : Fin 33) : t112 V b l
    = ∑ d, elu1 (t107 V b d) * mv (fun p => V (Proc.tc.devRef main_arg1) (ix2 l p)) (fun p d => V (Proc.tc.devRef main_arg2) (ix2 p d)) d := by
  have e : t112 V b l = ∑ d, (1 + (if 0 < t107 V b d then t107 V b d
      else Ideal.exp (if 0 < t107 V b d then id (constant (F := Ideal) S_ FTy.f32 0#32) ix0 else t107 V b d) - 1))
        * mv (fun p => V (Proc.tc.devRef main_arg1) (ix2 l p)) (fun p d => V (Proc.tc.devRef main_arg2) (ix2 p d)) d := by
    simp only [t1, t7, t14, t18, t20, t43, t47, t49, t71, t78, t82, t84, t107, t112, t119]; unfold mv res_main_v112; clean_types; pointwise
  rw [e]; refine Finset.sum_congr rfl fun d _ => ?_
  unfold elu1; split <;> rfl

/-- The exponentials of the logits less their greatest. -/
theorem v119_apply (b : Fin 2048) (l : Fin 33) : t119 V b l
    = Ideal.exp (t112 V b l - Finset.univ.fold max ⊥ (t112 V b)) := by
  have e : t119 V b l = Ideal.exp (t112 V b l
      - max (Ideal.ofBits FTy.f32 0xFF800000#32) (Finset.fold max (Ideal.ofBits FTy.f32 0xFF800000#32) (t112 V b) Finset.univ)) := by
    simp only [t1, t7, t14, t18, t20, t43, t47, t49, t71, t78, t82, t84, t107, t112, t119]; unfold res_main_v119; clean_types; pointwise
  rw [e, bot_eq, max_eq_right bot_le]

/-- The softmax of the logits is the attention. -/
theorem attn_apply (b : Fin 2048) (l : Fin 33) : softmax (t112 V b) l = attn V b l := by
  unfold attn att
  rw [show t112 V b = _ from funext fun l => v112_apply V b l]
  simp only [v107_apply V]

/-- The result, as the last operation leaves it. -/
def result : FVec Ideal S2048x2048 .f32 := addf (res_main_v1 V) (Host.dotGeneral dot_S2048x33_S2048x33x2048_S2048x2048_1_1_n_2_0_0 none (Host.divf (res_main_v119 V) (broadcastInDim S2048x33 ![0, 1] bcast_S2048x1_S2048x33_0_1 (broadcastInDim S2048x1 ![0] bcast_S2048_S2048x1_0 (Host.reduceAdd (res_main_v119 V) (constant S_ .f32 0x00000000#32) reducesTo_S2048x33_S2048_d1 h_S_)))) (addf (mulf (mulf (subf (res_main_v43 V) (broadcastInDim S2048x33x2048 ![0, 1, 2] bcast_S2048x33x1_S2048x33x2048_0_1_2 (res_main_v47 V))) (broadcastInDim S2048x33x2048 ![0, 1, 2] bcast_S2048x33x1_S2048x33x2048_0_1_2 (Host.rsqrt (addf (Host.divf (broadcastInDim S2048x33x1 ![0, 1] bcast_S2048x33_S2048x33x1_0_1 (Host.reduceAdd (mulf (res_main_v49 V) (res_main_v49 V)) (constant S_ .f32 0x00000000#32) reducesTo_S2048x33x2048_S2048x33_d2 h_S_)) (broadcastInDim S2048x33x1 ![] bcast_S_S2048x33x1 (constant S_ .f32 0x45000000#32))) (broadcastInDim S2048x33x1 ![] bcast_S_S2048x33x1 (constant S_ .f32 0x3727C5AC#32)))))) (broadcastInDim S2048x33x2048 ![0, 1, 2] bcast_S1x33x2048_S2048x33x2048_0_1_2 (broadcastInDim S1x33x2048 ![1, 2] bcast_S33x2048_S1x33x2048_1_2 (V (Proc.devRef .tc main_arg9))))) (broadcastInDim S2048x33x2048 ![0, 1, 2] bcast_S1x33x2048_S2048x33x2048_0_1_2 (broadcastInDim S1x33x2048 ![1, 2] bcast_S33x2048_S1x33x2048_1_2 (V (Proc.devRef .tc main_arg10))))))

/-- The result at one entry: the last source's row and the attended values. -/
theorem result_apply (h : Plain V) (b d : Fin 2048) :
    result V (ix2 b d) = x V b 32 d + ∑ l, attn V b l * norm lenD (val lenH (x V b l) (w1 V l) (w2 V l)) d := by
  have e : result V (ix2 b d) = t1 V b d + ∑ l,
      Ideal.div (t119 V b l) (∑ k, t119 V b k)
        * ((t43 V b l d - t47 V b l)
            * Ideal.rsqrt (Ideal.div (∑ k, t49 V b l k * t49 V b l k) lenD + eps)
            * V (Proc.tc.devRef main_arg9) (ix2 l d) + V (Proc.tc.devRef main_arg10) (ix2 l d)) := by
    simp only [t1, t7, t14, t18, t20, t43, t47, t49, t71, t78, t82, t84, t107, t112, t119]; unfold result lenD eps; clean_types; pointwise
  rw [e]
  simp only [h.g2, h.e2, v43_apply V h, v47_apply V h, v49_apply V h, mul_one, add_zero, v119_apply V, v1_apply V, ← attn_apply V]
  rfl

end Cert.Proof.RI
end
-- ==== Proof.Inputs.lean ====
module

public import proofs.«01_k».proof.Proof.Rows
public import proofs.«01_k».proof.Proof.Gen.Pre_plain_finite
public import Idealize.ShloMosaic.Lib.ReduceAll

@[expose] public section

set_option maxRecDepth 16384

noncomputable section

/-! What the precondition says of the arrays, entry by entry. -/

namespace Cert.Proof.Pre

open Cert.Pre_plain_finite
open Idealize.ShloMosaic
open Cert.Proof.Row

/-- A number whose magnitude is below infinity is real. -/
theorem real_of_abs {y : EReal} (h : max y (-y) < ⊤) : Real' y := by
  refine ⟨y.toReal, (EReal.coe_toReal ?_ ?_).symm⟩
  · rintro rfl; exact absurd h (by simp)
  · rintro rfl; exact absurd h (by simp)

/-- The bit of a proposition is one where the proposition holds. -/
theorem of_bit {p : Prop} [Decidable p] (h : BitVec.ofBool (decide p) = 1#1) : p := by
  by_contra hp
  rw [decide_eq_false hp] at h
  exact absurd h (by decide)

variable {s : Shape}

/-- An array that passes the finiteness test is real at every index. -/
theorem real_of (a : FVec Ideal s .f32) (h : S_.BroadcastsInDim s ![]) (i : s.Idx)
    (e : cmpf .olt (Host.absf a) (broadcastInDim s ![] h (constant (F := Ideal) S_ .f32 0x7F800000#32)) i = 1#1) : Real' (a i) := by
  have e' : BitVec.ofBool (decide (max (a i : EReal) (-(a i : EReal)) < Ideal.ofBits .f32 0x7F800000#32)) = 1#1 := e
  rw [top_eq] at e'
  exact real_of_abs (of_bit e')

/-- An array that passes the test against the constant of word `w` is that constant at every index. -/
theorem eq_of (a : FVec Ideal s .f32) (w : BitVec 32) (h : S_.BroadcastsInDim s ![]) (i : s.Idx)
    (e : cmpf .oeq a (broadcastInDim s ![] h (constant (F := Ideal) S_ .f32 w)) i = 1#1) : (a i : EReal) = Ideal.ofBits .f32 w := by
  have e' : BitVec.ofBool (decide ((a i : EReal) = Ideal.ofBits .f32 w)) = 1#1 := e
  exact of_bit e'

/-- The arrays the result reads are real at every index, the query's first layer aside; the value MLPs' offsets are zero and
their gains one. -/
structure Good (a0 : FVec Ideal S2048x33x2048 .f32) (a1 : FVec Ideal S33x24 .f32) (a2 : FVec Ideal S24x2048 .f32) (a3 : FVec Ideal S33x2048x1024 .f32) (a4 : FVec Ideal S33x1024 .f32) (a5 : FVec Ideal S33x1024 .f32) (a6 : FVec Ideal S33x1024 .f32) (a7 : FVec Ideal S33x1024x2048 .f32) (a8 : FVec Ideal S33x2048 .f32) (a9 : FVec Ideal S33x2048 .f32) (a10 : FVec Ideal S33x2048 .f32) (a13 : FVec Ideal S1024 .f32) (a14 : FVec Ideal S1024 .f32) (a15 : FVec Ideal S1024x2048 .f32) (a16 : FVec Ideal S2048 .f32) : Prop where
  x : ∀ i, Real' (a0 i)
  pos : ∀ i, Real' (a1 i)
  wk : ∀ i, Real' (a2 i)
  w1 : ∀ i, Real' (a3 i)
  w2 : ∀ i, Real' (a7 i)
  gq : ∀ i, Real' (a13 i)
  eq : ∀ i, Real' (a14 i)
  wq : ∀ i, Real' (a15 i)
  bq : ∀ i, Real' (a16 i)
  b1 : ∀ i, (a4 i : EReal) = 0
  g1 : ∀ i, (a5 i : EReal) = 1
  e1 : ∀ i, (a6 i : EReal) = 0
  b2 : ∀ i, (a8 i : EReal) = 0
  g2 : ∀ i, (a9 i : EReal) = 1
  e2 : ∀ i, (a10 i : EReal) = 0

/-- The word of one is one. -/
theorem one_eq : Ideal.ofBits .f32 0x3F800000#32 = (1 : EReal) := Ideal.ofBits_one_f32

/-- The precondition, read: the arrays are `Good`. -/
theorem good (a0 : FVec Ideal S2048x33x2048 .f32) (a1 : FVec Ideal S33x24 .f32) (a2 : FVec Ideal S24x2048 .f32) (a3 : FVec Ideal S33x2048x1024 .f32) (a4 : FVec Ideal S33x1024 .f32) (a5 : FVec Ideal S33x1024 .f32) (a6 : FVec Ideal S33x1024 .f32) (a7 : FVec Ideal S33x1024x2048 .f32) (a8 : FVec Ideal S33x2048 .f32) (a9 : FVec Ideal S33x2048 .f32) (a10 : FVec Ideal S33x2048 .f32) (a11 : FVec Ideal S2048x1024 .f32) (a12 : FVec Ideal S1024 .f32) (a13 : FVec Ideal S1024 .f32) (a14 : FVec Ideal S1024 .f32) (a15 : FVec Ideal S1024x2048 .f32) (a16 : FVec Ideal S2048 .f32)
    (h : fn (F := Ideal) a0 a1 a2 a3 a4 a5 a6 a7 a8 a9 a10 a11 a12 a13 a14 a15 a16 = fun _ => 1#1) :
    Good a0 a1 a2 a3 a4 a5 a6 a7 a8 a9 a10 a13 a14 a15 a16 := by
  have h := congrFun h (fun d => d.elim0)
  unfold fn fn_part1 fn_part2 fn_part3 fn_part4 at h
  dsimp only at h
  obtain ⟨h, h10⟩ := IntOp.andi_eq_one.1 h
  obtain ⟨h, h9⟩ := IntOp.andi_eq_one.1 h
  obtain ⟨h, h8⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h2⟩ := IntOp.andi_eq_one.1 h
  obtain ⟨h, h1⟩ := IntOp.andi_eq_one.1 h
  obtain ⟨h, h7⟩ := IntOp.andi_eq_one.1 h
  obtain ⟨h, h3⟩ := IntOp.andi_eq_one.1 h
  exact ⟨fun i => real_of a0 _ i (Host.reduce_andi_all _ _ _ _ _ h i),
    fun i => real_of a1 _ i (Host.reduce_andi_all _ _ _ _ _ h1 i),
    fun i => real_of a2 _ i (Host.reduce_andi_all _ _ _ _ _ h2 i),
    fun i => real_of a3 _ i (Host.reduce_andi_all _ _ _ _ _ h3 i),
    fun i => real_of a7 _ i (Host.reduce_andi_all _ _ _ _ _ h7 i),
    fun i => real_of a13 _ i (Host.reduce_andi_all _ _ _ _ _ h13 i),
    fun i => real_of a14 _ i (Host.reduce_andi_all _ _ _ _ _ h14 i),
    fun i => real_of a15 _ i (Host.reduce_andi_all _ _ _ _ _ h15 i),
    fun i => real_of a16 _ i (Host.reduce_andi_all _ _ _ _ _ h16 i),
    fun i => (eq_of a4 _ _ i (Host.reduce_andi_all _ _ _ _ _ h4 i)).trans Ideal.ofBits_zero_f32,
    fun i => (eq_of a5 _ _ i (Host.reduce_andi_all _ _ _ _ _ h5 i)).trans one_eq,
    fun i => (eq_of a6 _ _ i (Host.reduce_andi_all _ _ _ _ _ h6 i)).trans Ideal.ofBits_zero_f32,
    fun i => (eq_of a8 _ _ i (Host.reduce_andi_all _ _ _ _ _ h8 i)).trans Ideal.ofBits_zero_f32,
    fun i => (eq_of a9 _ _ i (Host.reduce_andi_all _ _ _ _ _ h9 i)).trans one_eq,
    fun i => (eq_of a10 _ _ i (Host.reduce_andi_all _ _ _ _ _ h10 i)).trans Ideal.ofBits_zero_f32⟩

end Cert.Proof.Pre
end
-- ==== Proof.Value.lean ====
module

public import proofs.«01_k».proof.Proof.Arrays
public import proofs.«01_k».proof.Proof.RefTerms
public import proofs.«01_k».proof.Proof.Inputs

@[expose] public section

set_option maxRecDepth 16384

noncomputable section

/-! The kernel's result is the reference's, entry by entry, on the inputs the precondition admits. -/

namespace Cert.Proof.KI

open Cert.KernelIdeal Cert.KernelIdeal.Gen
open Idealize.ShloMosaic Idealize.ShloMosaic.StableHlo Idealize.ShloMosaic.TcCoe
open Cert.Proof.Row
open scoped BigOperators

/-- Equal rows, weights and keys have equal attention. -/
theorem att_congr {z z' : Fin 2048 → EReal} {w w' : Fin 2048 → Fin 1024 → EReal} {b b' g g' e e' : Fin 1024 → EReal}
    {u u' : Fin 1024 → Fin 2048 → EReal} {q q' : Fin 2048 → EReal} {p p' : Fin 33 → Fin 24 → EReal} {k k' : Fin 24 → Fin 2048 → EReal}
    (hz : z = z') (hw : w = w') (hb : b = b') (hg : g = g') (he : e = e') (hu : u = u') (hq : q = q') (hp : p = p') (hk : k = k') :
    att z (hidQ lenH z w b g e) u q p k = att z' (hidQ lenH z' w' b' g' e') u' q' p' k' := by
  subst hz hw hb hg he hu hq hp hk; rfl

/-- What equals a real number is real. -/
theorem real_eq {y y' : EReal} (h : y = y') (hy : Real' y') : Real' y := h ▸ hy

/-- The attention is real where everything it reads past the query's first layer is. -/
theorem att_real (z : Fin 2048 → EReal) (w : Fin 2048 → Fin 1024 → EReal) (b g e : Fin 1024 → EReal) (u : Fin 1024 → Fin 2048 → EReal)
    (q : Fin 2048 → EReal) (p : Fin 33 → Fin 24 → EReal) (k : Fin 24 → Fin 2048 → EReal) (hz : ∀ d, Real' (z d)) (hg : ∀ j, Real' (g j))
    (he : ∀ j, Real' (e j)) (hu : ∀ j d, Real' (u j d)) (hq : ∀ d, Real' (q d)) (hp : ∀ l j, Real' (p l j)) (hk : ∀ j d, Real' (k j d)) (l : Fin 33) :
    Real' (att z (hidQ lenH z w b g e) u q p k l) := by
  have hh : ∀ j, Real' (hidQ lenH z w b g e j) := fun j => by
    unfold hidQ; rw [lenH_eq]
    exact ((Real'.norm_any 1024 (by norm_num) (by norm_num) _ j).mul (hg j)).add (he j)
  exact Real'.softmax _ (fun l => Real'.sum fun j => (Real'.elu1 ((hz j).add ((Real'.mv hh hu j).add (hq j)))).mul (Real'.mv (hp l) hk j)) l

/-- One entry: the weighted values and the weighted means, summed apart over the sources, against the weighted normalised values. -/
theorem entry_eq (x : Fin 33 → Fin 2048 → EReal) (w : Fin 33 → Fin 2048 → Fin 1024 → EReal) (u : Fin 33 → Fin 1024 → Fin 2048 → EReal)
    (a : Fin 33 → EReal) (hx : ∀ l d, Real' (x l d)) (hw : ∀ l d k, Real' (w l d k)) (hu : ∀ l k d, Real' (u l k d)) (ha : ∀ l, Real' (a l)) (d : Fin 2048) :
    acc (fun l => valK invH (x (src l)) (w (src l)) (u (src l)) d * (rdevK invD (valK invH (x (src l)) (w (src l)) (u (src l))) * a (src l))) 33
      + (x 32 d - acc (fun l => (∑ d, valK invH (x (src l)) (w (src l)) (u (src l)) d) * invD
          * (rdevK invD (valK invH (x (src l)) (w (src l)) (u (src l))) * a (src l))) 33)
      = x 32 d + ∑ l, a l * norm lenD (val lenH (x l) (w l) (u l)) d := by
  have hh : ∀ l k, Real' (gelu (mv (x l) (w l) k)) := fun l k => Real'.gelu (Real'.mv (hx l) (hw l) k)
  have hv : ∀ l, valK invH (x l) (w l) (u l) = val lenH (x l) (w l) (u l) := fun l => by
    unfold valK val; rw [invH_eq, lenH_eq, norm_eq 1024 (by norm_num) (by norm_num) _ (hh l)]
  have hr : ∀ l d, Real' (val lenH (x l) (w l) (u l) d) := fun l d => by
    unfold val; rw [lenH_eq]
    exact Real'.mv (Real'.norm 1024 (by norm_num) (by norm_num) _ (hh l)) (hu l) d
  choose μ r h1 h2 h3 h4 using fun l => stats 2048 (by norm_num) (by norm_num) (val lenH (x l) (w l) (u l)) (hr l)
  simp only [hv, invD_eq, lenD_eq, h2, h4]
  rw [total_eq (n := 32) (x 32 d) (hx 32 d) (fun l => val lenH (x (src l)) (w (src l)) (u (src l)) d) (fun l => (μ (src l) : EReal))
    (fun l => (r (src l) : EReal)) (fun l => a (src l)) (fun l => hr _ d) (fun l => ⟨_, rfl⟩) (fun l => ⟨_, rfl⟩) (fun l => ha _)]
  refine congrArg (x 32 d + ·) (Finset.sum_congr rfl fun l _ => ?_)
  unfold Row.norm; rw [src_val l, h1, h3]

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)

/-- The reference's arrays as launched. -/
abbrev RV : Valuation Cert.ReferenceIdeal.τ Cert.ReferenceIdeal.sig (Elt Ideal) := launchContents m' c

/-- The two memories agree on every argument. -/
def Agree : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)
  ∧ m' ((c.tc : Thread Cert.ReferenceIdeal.nD Cert.ReferenceIdeal.τ).loc Cert.ReferenceIdeal.main_arg12) = m ((c.tc : Thread nD τ).loc main_arg12)
  ∧ m' ((c.tc : Thread Cert.ReferenceIdeal.nD Cert.ReferenceIdeal.τ).loc Cert.ReferenceIdeal.main_arg13) = m ((c.tc : Thread nD τ).loc main_arg13)
  ∧ m' ((c.tc : Thread Cert.ReferenceIdeal.nD Cert.ReferenceIdeal.τ).loc Cert.ReferenceIdeal.main_arg14) = m ((c.tc : Thread nD τ).loc main_arg14)
  ∧ m' ((c.tc : Thread Cert.ReferenceIdeal.nD Cert.ReferenceIdeal.τ).loc Cert.ReferenceIdeal.main_arg15) = m ((c.tc : Thread nD τ).loc main_arg15)
  ∧ m' ((c.tc : Thread Cert.ReferenceIdeal.nD Cert.ReferenceIdeal.τ).loc Cert.ReferenceIdeal.main_arg16) = m ((c.tc : Thread nD τ).loc main_arg16)

/-- The kernel's arguments are as the precondition says. -/
abbrev Fine : Prop := Pre.Good (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg15) (arg m c main_arg16)

variable {m m' c}

/-- Where the memories agree, the reference's value MLPs are plain. -/
theorem plain (hg : Fine m c) (ha : Agree m m' c) : RI.Plain (RV m' c) := by
  obtain ⟨h0, h1, h2, h3, h4, h5, h6, h7, h8, h9, h10, h11, h12, h13, h14, h15, h16⟩ := ha
  exact ⟨fun _ _ => (congrFun h4 _).trans (hg.b1 _), fun _ _ => (congrFun h5 _).trans (hg.g1 _), fun _ _ => (congrFun h6 _).trans (hg.e1 _),
    fun _ _ => (congrFun h8 _).trans (hg.b2 _), fun _ _ => (congrFun h9 _).trans (hg.g2 _), fun _ _ => (congrFun h10 _).trans (hg.e2 _)⟩

/-- Where the memories agree, the first call leaves the reference's attention. -/
theorem att_eq (ha : Agree m m' c) (B : Fin 2048) : attE (W1 m) c B = RI.attn (RV m' c) B := by
  obtain ⟨h0, h1, h2, h3, h4, h5, h6, h7, h8, h9, h10, h11, h12, h13, h14, h15, h16⟩ := ha
  exact att_congr (funext fun d => (z_apply m c B d).trans (congrFun h0 _).symm)
    (funext fun d => funext fun k => (congrFun (W1_arg m c main_arg11 (by decide)) _).trans (congrFun h11 _).symm)
    (funext fun k => (b_apply m c k).trans (congrFun h12 _).symm) (funext fun k => (g_apply m c k).trans (congrFun h13 _).symm)
    (funext fun k => (e_apply m c k).trans (congrFun h14 _).symm)
    (funext fun k => funext fun d => (congrFun (W1_arg m c main_arg15 (by decide)) _).trans (congrFun h15 _).symm)
    (funext fun d => (c_apply m c d).trans (congrFun h16 _).symm)
    (funext fun l => funext fun p => (congrFun (W1_arg m c main_arg1 (by decide)) _).trans (congrFun h1 _).symm)
    (funext fun p => funext fun d => (congrFun (W1_arg m c main_arg2 (by decide)) _).trans (congrFun h2 _).symm)

/-- Where the memories agree and the precondition holds, the kernel's result is the reference's at every entry. -/
theorem out_apply (hg : Fine m c) (ha : Agree m m' c) (B d : Fin 2048) :
    (out9 m c (ix2 B d) : EReal) = RI.result (RV m' c) (ix2 B d) := by
  have hatt := att_eq ha B
  have hp := plain hg ha
  obtain ⟨h0, h1, h2, h3, h4, h5, h6, h7, h8, h9, h10, h11, h12, h13, h14, h15, h16⟩ := ha
  have ex : gX (W2 m) c B = RI.x (RV m' c) B := funext fun l => funext fun d =>
    (congrFun ((W2_ne m c main_arg0 (by decide)).trans (W1_arg m c main_arg0 (by decide))) _).trans (congrFun h0 _).symm
  have ew : gW (W2 m) c = RI.w1 (RV m' c) := funext fun l => funext fun d => funext fun k =>
    (congrFun (W2_ne m c main_v2 (by decide)) _).trans ((w_apply m c l d k).trans (congrFun h3 _).symm)
  have eu : gU (W2 m) c = RI.w2 (RV m' c) := funext fun l => funext fun k => funext fun d =>
    (congrFun (W2_ne m c main_v3 (by decide)) _).trans ((u_apply m c l k d).trans (congrFun h7 _).symm)
  have ea : gA (W2 m) c B = RI.attn (RV m' c) B := funext fun l =>
    (congrFun (W2_out m c) _).trans ((arr0 (W1 m) c B l).trans (congrFun hatt l))
  have hx : ∀ l d, Real' (RI.x (RV m' c) B l d) := fun l d => real_eq (congrFun h0 (ix3 B l d)) (hg.x (ix3 B l d))
  rw [RI.result_apply _ hp, ← entry_eq (RI.x (RV m' c) B) (RI.w1 (RV m' c)) (RI.w2 (RV m' c)) (RI.attn (RV m' c) B)
    hx (fun l d k => real_eq (congrFun h3 (ix3 l d k)) (hg.w1 (ix3 l d k))) (fun l k d => real_eq (congrFun h7 (ix3 l k d)) (hg.w2 (ix3 l k d)))
    (fun l => att_real _ _ _ _ _ _ _ _ _ (hx 32) (fun k => real_eq (congrFun h13 (ix1 k)) (hg.gq (ix1 k))) (fun k => real_eq (congrFun h14 (ix1 k)) (hg.eq (ix1 k)))
      (fun k d => real_eq (congrFun h15 (ix2 k d)) (hg.wq (ix2 k d))) (fun d => real_eq (congrFun h16 (ix1 d)) (hg.bq (ix1 d)))
      (fun l p => real_eq (congrFun h1 (ix2 l p)) (hg.pos (ix2 l p))) (fun p d => real_eq (congrFun h2 (ix2 p d)) (hg.wk (ix2 p d))) l) d,
    ← ex, ← ew, ← eu, ← ea]
  exact arr1 (W2 m) c B d

/-- Where the memories agree and the precondition holds, the kernel's result is the reference's. -/
theorem out_eq (hg : Fine m c) (ha : Agree m m' c) : RI.result (RV m' c) = out9 m c := by
  funext i
  rw [ValueIdx.eq_ix2 i]
  exact (out_apply hg ha _ _).symm

end Cert.Proof.KI
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_plain_finite
public import proofs.«01_k».proof.Proof.Same
public import proofs.«01_k».proof.Proof.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The idealized kernel, from any memory: it ends, keeps its arguments and leaves every counter at zero. -/
theorem kernelIdeal_frame : Cert.quiescent_KernelIdeal := by
  intro m g _
  exact KI.frame_run (F := Ideal) m g

/-- The reference, from any memory: it ends, keeps its arguments and leaves every counter at zero. -/
theorem reference_frame : Cert.quiescent_ReferenceIdeal := by
  intro m g _
  refine θ_run_mono (Cert.ReferenceIdeal.Value.run (F := Ideal) m g) ?_
  intro r h
  exact ⟨fun c => (h c).2, sem_eq_zero_of_no_sems rfl r.2⟩

/-- The idealized kernel and the reference, from memories that agree on the arguments, where the precondition holds: both
end, with equal results and their arguments kept. -/
theorem equal_results : Cert.algebraic_KernelIdeal_ReferenceIdeal_pre_plain_finite := by
  intro m g m' g' hpre hsame
  refine ⟨fun c => KI.out9 m c, θ_run_mono (KI.run_main (F := Ideal) m g) fun r h c => ⟨KI.end_out m r h c, KI.end_args m r h c⟩,
    θ_run_mono (Cert.ReferenceIdeal.Value.run (F := Ideal) m' g') fun r h c => ⟨(h c).1.trans ?_, (h c).2⟩⟩
  exact KI.out_eq (Pre.good _ _ _ _ _ _ _ _ _ _ _ _ _ _ _ _ _ (hpre c)) (hsame c)

/-- Every claim. -/
theorem claim : Cert.Claim := ⟨Cert.Kernel.Gen.facts, Cert.KernelIdeal.Gen.facts, Cert.ReferenceIdeal.Gen.facts, Cert.Pre_plain_finite.Gen.facts,
  Same.kernel_frame, kernelIdeal_frame, fun m g _ => kernelIdeal_frame m g trivial, reference_frame, fun m g _ => reference_frame m g trivial, trivial, equal_results⟩

end Cert.Proof

end
